-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v21) = v1 c
          ∧ r.2.mem ((c.tc : Thread Cert.InProjReferenceIdeal.nD Cert.InProjReferenceIdeal.τ).loc Cert.InProjReferenceIdeal.main_v17) = v2 c
          ∧ r.2.mem ((c.tc : Thread Cert.InProjReferenceIdeal.nD Cert.InProjReferenceIdeal.τ).loc Cert.InProjReferenceIdeal.main_v18) = v3 c
          ∧ r.2.mem ((c.tc : Thread Cert.InProjReferenceIdeal.nD Cert.InProjReferenceIdeal.τ).loc Cert.InProjReferenceIdeal.main_v19) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v13) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hFinalNorm : Cert.FinalNorm.Facts) (hFinalNormIdeal : Cert.FinalNormIdeal.Facts) (hFinalNormReferenceIdeal : Cert.FinalNormReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_InProj (hInProj := hInProj)
    ∧ quiescent_InProjIdeal (hInProjIdeal := hInProjIdeal)
    ∧ quiescent_InProjReferenceIdeal (hInProjReferenceIdeal := hInProjReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_InProj_InProjIdeal
    ∧ algebraic_InProjIdeal_InProjReferenceIdeal (hInProjIdeal := hInProjIdeal) (hInProjReferenceIdeal := hInProjReferenceIdeal)
    ∧ preserves_FinalNorm_FinalNormIdeal
    ∧ algebraic_FinalNormIdeal_FinalNormReferenceIdeal (hFinalNormIdeal := hFinalNormIdeal) (hFinalNormReferenceIdeal := hFinalNormReferenceIdeal)
-- ==== Pre_tame.lean ====
abbrev S2x16384x1024 : Shape := ⟨3, ![2, 16384, 1024]⟩
abbrev S32768x512 : Shape := ⟨2, ![32768, 512]⟩
abbrev S32768x256 : Shape := ⟨2, ![32768, 256]⟩
abbrev S32768x1024 : Shape := ⟨2, ![32768, 1024]⟩
abbrev S32768x3072 : Shape := ⟨2, ![32768, 3072]⟩
abbrev S32x8 : Shape := ⟨2, ![32, 8]⟩
abbrev S8 : Shape := ⟨1, ![8]⟩
abbrev S4x128x128 : Shape := ⟨3, ![4, 128, 128]⟩
abbrev S512 : Shape := ⟨1, ![512]⟩
abbrev S4x128 : Shape := ⟨2, ![4, 128]⟩
abbrev S512x1024 : Shape := ⟨2, ![512, 1024]⟩
abbrev S1024x1024 : Shape := ⟨2, ![1024, 1024]⟩
abbrev S3072 : Shape := ⟨1, ![3072]⟩
abbrev S_ : Shape := ⟨0, ![]⟩
abbrev S32768x128 : Shape := ⟨2, ![32768, 128]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  slices_S32768x256_S32768x128_0_0 : S32768x256.Slices ![0, 0] S32768x128
  bcast_S_S32768x128 : S_.BroadcastsInDim S32768x128 (![] : Fin 0 → Fin S32768x128.rank)
  reducesTo_S32768x128_S_d0_1 : S32768x128.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S32768x512 .f32) (main_v14 : IVec S_ 1) (main_v15 : FVec F S8 .f32) (main_v16 : FVec F S8 .f32) : IVec S_ 1 :=
  let main_v17 : IVec S8 1 := cmpf .olt main_v15 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v14 main_v18
  let main_v20 : FVec F S32768x512 .f32 := Host.absf main_arg3
  let main_cst_6 : FVec F S_ .f32 := constant S_ .f32 0x7F800000#32
  let main_v21 : FVec F S32768x512 .f32 := broadcastInDim S32768x512 ![] bcast_S_S32768x512 main_cst_6
  let main_v22 : IVec S32768x512 1 := cmpf .olt main_v20 main_v21
  let main_c_7 : IVec S_ 1 := constantI S_ 1 1#1
  let main_v23 : IVec S_ 1 := (fun x v => Host.reduce IntOp.andi x v reducesTo_S32768x512_S_d0_1 h_S_) main_v22 main_c_7
  let main_v24 : IVec S_ 1 := andi main_v19 main_v23
  main_v24

def fn {F : FTy → Type} [FloatOps F] (main_arg0 : FVec F S2x16384x1024 .f32) (main_arg1 : FVec F S32768x512 .bf16) (main_arg2 : FVec F S32768x256 .bf16) (main_arg3 : FVec F S32768x512 .f32) (main_arg4 : FVec F S32768x1024 .f32) (main_arg5 : FVec F S32768x3072 .f32) (main_arg6 : FVec F S32x8 .f32) (main_arg7 : FVec F S8 .f32) (main_arg8 : FVec F S4x128x128 .f32) (main_arg9 : FVec F S512 .f32) (main_arg10 : FVec F S512 .f32) (main_arg11 : FVec F S4x128x128 .f32) (main_arg12 : FVec F S4x128 .f32) (main_arg13 : FVec F S512x1024 .f32) (main_arg14 : FVec F S512x1024 .f32) (main_arg15 : FVec F S512x1024 .f32) (main_arg16 : FVec F S1024x1024 .f32) (main_arg17 : FVec F S3072 .f32) : IVec S_ 1 :=
  let main_v0 : FVec F S32768x512 .bf16 := Host.absf main_arg1
  let main_cst : FVec F S_ .bf16 := constant S_ .bf16 0x7F80#16
  let main_v1 : FVec F S32768x512 .bf16 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x128 .bf16 := (extractStridedSlice S32768x128 ![0, 0] · slices_S32768x256_S32768x128_0_0) main_arg2
  let main_v5 : FVec F S32768x128 .bf16 := Host.absf main_v4
  let main_cst_0 : FVec F S_ .bf16 := constant S_ .bf16 0x7F80#16
  let main_v6 : FVec F S32768x128 .bf16 := broadcastInDim S32768x128 ![] bcast_S_S32768x128 main_cst_0
  let main_v7 : IVec S32768x128 1 := cmpf .olt main_v5 main_v6
  let main_c_1 : IVec S_ 1 := constantI S_ 1 1#1
  let main_v8 : IVec S_ 1 := (fun x v => Host.reduce IntOp.andi x v reducesTo_S32768x128_S_d0_1 h_S_) main_v7 main_c_1
  let main_v9 : IVec S_ 1 := andi main_v3 main_v8
  let main_v10 : FVec F S32x8 .f32 := Host.absf main_arg6
  let main_cst_2 : FVec F S_ .f32 := constant S_ .f32 0x7F800000#32
  let main_v11 : FVec F S32x8 .f32 := broadcastInDim S32x8 ![] bcast_S_S32x8 main_cst_2
  let main_v12 : IVec S32x8 1 := cmpf .olt main_v10 main_v11
  let main_c_3 : IVec S_ 1 := constantI S_ 1 1#1
  let main_v13 : IVec S_ 1 := (fun x v => Host.reduce IntOp.andi x v reducesTo_S32x8_S_d0_1 h_S_) main_v12 main_c_3
  let main_v14 : IVec S_ 1 := andi main_v9 main_v13
  let main_v15 : FVec F S8 .f32 := Host.absf main_arg7
  let main_cst_4 : FVec F S_ .f32 := constant S_ .f32 0x7F800000#32
  let main_v16 : FVec F S8 .f32 := broadcastInDim S8 ![] bcast_S_S8 main_cst_4
  fn_part1 (F := F) main_arg3 main_v14 main_v15 main_v16
-- ==== Kernel.lean ====
abbrev S2x16384x1024 : Shape := ⟨3, ![2, 16384, 1024]⟩
abbrev S32768x512 : Shape := ⟨2, ![32768, 512]⟩
abbrev S32768x256 : Shape := ⟨2, ![32768, 256]⟩
abbrev S32768x1024 : Shape := ⟨2, ![32768, 1024]⟩
abbrev S32768x3072 : Shape := ⟨2, ![32768, 3072]⟩
abbrev S32x8 : Shape := ⟨2, ![32, 8]⟩
abbrev S8 : Shape := ⟨1, ![8]⟩
abbrev S4x128x128 : Shape := ⟨3, ![4, 128, 128]⟩
abbrev S512 : Shape := ⟨1, ![512]⟩
abbrev S4x128 : Shape := ⟨2, ![4, 128]⟩
abbrev S512x1024 : Shape := ⟨2, ![512, 1024]⟩
abbrev S1024x1024 : Shape := ⟨2, ![1024, 1024]⟩
abbrev S3072 : Shape := ⟨1, ![3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S8x128x256 : Shape := ⟨3, ![8, 128, 256]⟩
abbrev S1x512 : Shape := ⟨2, ![1, 512]⟩
abbrev S128x4 : Shape := ⟨2, ![128, 4]⟩
abbrev S1x3072 : Shape := ⟨2, ![1, 3072]⟩
abbrev S128x1024 : Shape := ⟨2, ![128, 1024]⟩
abbrev S128x512 : Shape := ⟨2, ![128, 512]⟩
abbrev S16x512 : Shape := ⟨2, ![16, 512]⟩
abbrev S128x3072 : Shape := ⟨2, ![128, 3072]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S1x128x256 : Shape := ⟨3, ![1, 128, 256]⟩
abbrev S1 : Shape := ⟨1, ![1]⟩
abbrev S144x512 : Shape := ⟨2, ![144, 512]⟩
abbrev S144x128 : Shape := ⟨2, ![144, 128]⟩
abbrev S1x128x128 : Shape := ⟨3, ![1, 128, 128]⟩

abbrev nBuf : Space → Nat
  | .hbm => 75
  | .vmem => 29
  | .smem => 1
  | _ => 0

abbrev bufTy : (tb : Table) → Fin (tcTables nBuf tb) → BufTy
  | .hbm, ⟨0, _⟩ => ⟨S2x16384x1024, .f32⟩
  | .hbm, ⟨1, _⟩ => ⟨S32768x512, .bf16⟩
  | .hbm, ⟨2, _⟩ => ⟨S32768x256, .bf16⟩
  | .hbm, ⟨3, _⟩ => ⟨S32768x512, .f32⟩
  | .hbm, ⟨4, _⟩ => ⟨S32768x1024, .f32⟩
  | .hbm, ⟨5, _⟩ => ⟨S32768x3072, .f32⟩
  | .hbm, ⟨6, _⟩ => ⟨S32x8, .f32⟩
  | .hbm, ⟨7, _⟩ => ⟨S8, .f32⟩
  | .hbm, ⟨8, _⟩ => ⟨S4x128x128, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S4x128, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S3072, .f32⟩
  | .hbm, ⟨18, _⟩ => ⟨S128, .i32⟩
  | .hbm, ⟨19, _⟩ => ⟨S128x1, .i32⟩
  | .hbm, ⟨20, _⟩ => ⟨S256, .i32⟩
  | .hbm, ⟨21, _⟩ => ⟨S1x256, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S128x256, .i32⟩
  | .hbm, ⟨56, _⟩ => ⟨S128x256x1, .i32⟩
  | .hbm, ⟨57, _⟩ => ⟨S32, .i32⟩
  | .hbm, ⟨58, _⟩ => ⟨S1x1x32, .i32⟩
  | .hbm, ⟨59, _⟩ => ⟨S128x256x32, .i32⟩
  | .hbm, ⟨60, _⟩ => ⟨S128x256x32, .i32⟩
  | .hbm, ⟨61, _⟩ => ⟨S128x256x32, .i1⟩
  | .hbm, ⟨62, _⟩ => ⟨S128x256x32, .f32⟩
  | .hbm, ⟨63, _⟩ => ⟨S8x128x256, .f32⟩
  | .hbm, ⟨64, _⟩ => ⟨S32768x1024, .f32⟩
  | .hbm, ⟨65, _⟩ => ⟨S4x128x128, .bf16⟩
  | .hbm, ⟨66, _⟩ => ⟨S1x512, .f32⟩
  | .hbm, ⟨67, _⟩ => ⟨S1x512, .f32⟩
  | .hbm, ⟨68, _⟩ => ⟨S128x4, .f32⟩
  | .hbm, ⟨69, _⟩ => ⟨S512x1024, .bf16⟩
  | .hbm, ⟨70, _⟩ => ⟨S512x1024, .bf16⟩
  | .hbm, ⟨71, _⟩ => ⟨S512x1024, .bf16⟩
  | .hbm, ⟨72, _⟩ => ⟨S1024x1024, .bf16⟩
  | .hbm, ⟨73, _⟩ => ⟨S1x3072, .f32⟩
  | .hbm, ⟨74, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x512, .f32⟩
  | .local _ .vmem, ⟨9, _⟩ => ⟨S128x512, .f32⟩
  | .local _ .vmem, ⟨10, _⟩ => ⟨S16x512, .f32⟩
  | .local _ .vmem, ⟨11, _⟩ => ⟨S16x512, .f32⟩
  | .local _ .vmem, ⟨12, _⟩ => ⟨S128x1024, .f32⟩
  | .local _ .vmem, ⟨13, _⟩ => ⟨S128x1024, .f32⟩
  | .local _ .vmem, ⟨14, _⟩ => ⟨S128x3072, .f32⟩
  | .local _ .vmem, ⟨15, _⟩ => ⟨S128x3072, .f32⟩
  | .local _ .vmem, ⟨16, _⟩ => ⟨S8x128x256, .f32⟩
  | .local _ .vmem, ⟨17, _⟩ => ⟨S4x128x128, .bf16⟩
  | .local _ .vmem, ⟨18, _⟩ => ⟨S1x512, .f32⟩
  | .local _ .vmem, ⟨19, _⟩ => ⟨S1x512, .f32⟩
  | .local _ .vmem, ⟨20, _⟩ => ⟨S4x128x128, .f32⟩
  | .local _ .vmem, ⟨21, _⟩ => ⟨S128x4, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x3072, .f32⟩
  | .local _ .vmem, ⟨27, _⟩ => ⟨S128x1024, .f32⟩
  | .local _ .vmem, ⟨28, _⟩ => ⟨S128x1024, .f32⟩
  | .local _ .smem, ⟨0, _⟩ => ⟨S8, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x1024 : Shape := ⟨3, ![2, 16384, 1024]⟩
abbrev S32768x512 : Shape := ⟨2, ![32768, 512]⟩
abbrev S32768x256 : Shape := ⟨2, ![32768, 256]⟩
abbrev S32768x1024 : Shape := ⟨2, ![32768, 1024]⟩
abbrev S32768x3072 : Shape := ⟨2, ![32768, 3072]⟩
abbrev S32x8 : Shape := ⟨2, ![32, 8]⟩
abbrev S8 : Shape := ⟨1, ![8]⟩
abbrev S4x128x128 : Shape := ⟨3, ![4, 128, 128]⟩
abbrev S512 : Shape := ⟨1, ![512]⟩
abbrev S4x128 : Shape := ⟨2, ![4, 128]⟩
abbrev S512x1024 : Shape := ⟨2, ![512, 1024]⟩
abbrev S1024x1024 : Shape := ⟨2, ![1024, 1024]⟩
abbrev S3072 : Shape := ⟨1, ![3072]⟩
abbrev S2x16384x512 : Shape := ⟨3, ![2, 16384, 512]⟩
abbrev S2x16384x256 : Shape := ⟨3, ![2, 16384, 256]⟩
abbrev S2x16384x128 : Shape := ⟨3, ![2, 16384, 128]⟩
abbrev S2x16384x3072 : Shape := ⟨3, ![2, 16384, 3072]⟩
abbrev S1x1x3072 : Shape := ⟨3, ![1, 1, 3072]⟩
abbrev S_ : Shape := ⟨0, ![]⟩
abbrev S2x16384x3x1024 : Shape := ⟨4, ![2, 16384, 3, 1024]⟩
abbrev S2x128x128x2x4x64 : Shape := ⟨6, ![2, 128, 128, 2, 4, 64]⟩
abbrev S2x128x128x2x64 : Shape := ⟨5, ![2, 128, 128, 2, 64]⟩
abbrev S2x129x128x2x64 : Shape := ⟨5, ![2, 129, 128, 2, 64]⟩
abbrev S2x128x256x2x64 : Shape := ⟨5, ![2, 128, 256, 2, 64]⟩
abbrev S2x128x2x256x128x4 : Shape := ⟨6, ![2, 128, 2, 256, 128, 4]⟩
abbrev S2x128x2x4x128x256 : Shape := ⟨6, ![2, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x1x128x256 : Shape := ⟨6, ![1, 128, 1, 1, 128, 256]⟩
abbrev S1x1x2x4x128x256 : Shape := ⟨6, ![1, 1, 2, 4, 128, 256]⟩
abbrev S2x4 : Shape := ⟨2, ![2, 4]⟩
abbrev S2x4x1x1 : Shape := ⟨4, ![2, 4, 1, 1]⟩
abbrev S2x128x2x4x128 : Shape := ⟨5, ![2, 128, 2, 4, 128]⟩
abbrev S2x128x2x4x128x1 : Shape := ⟨6, ![2, 128, 2, 4, 128, 1]⟩
abbrev S1x1x2x4x1x1 : Shape := ⟨6, ![1, 1, 2, 4, 1, 1]⟩
abbrev S2x128x2x64x4x128 : Shape := ⟨6, ![2, 128, 2, 64, 4, 128]⟩
abbrev S2x16384x4x128 : Shape := ⟨4, ![2, 16384, 4, 128]⟩
abbrev S16384 : Shape := ⟨1, ![16384]⟩
abbrev S2x16384x1x128 : Shape := ⟨4, ![2, 16384, 1, 128]⟩
abbrev S2x16386x128 : Shape := ⟨3, ![2, 16386, 128]⟩
abbrev S1x16384x1 : Shape := ⟨3, ![1, 16384, 1]⟩
abbrev S2x16388x128 : Shape := ⟨3, ![2, 16388, 128]⟩
abbrev S2x16392x128 : Shape := ⟨3, ![2, 16392, 128]⟩
abbrev S2x16400x128 : Shape := ⟨3, ![2, 16400, 128]⟩
abbrev S4x128x2x16384 : Shape := ⟨4, ![4, 128, 2, 16384]⟩
abbrev S1x1x512 : Shape := ⟨3, ![1, 1, 512]⟩
abbrev S2x16384 : Shape := ⟨2, ![2, 16384]⟩
abbrev S2x16384x1 : Shape := ⟨3, ![2, 16384, 1]⟩
abbrev S2x128x128x4x128 : Shape := ⟨5, ![2, 128, 128, 4, 128]⟩
abbrev S128x128 : Shape := ⟨2, ![128, 128]⟩
abbrev S1x128x128 : Shape := ⟨3, ![1, 128, 128]⟩
abbrev S4x2x128x128x128 : Shape := ⟨5, ![4, 2, 128, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x16384x1x1024 : Shape := ⟨4, ![2, 16384, 1, 1024]⟩

abbrev nBuf : Space → Nat
  | .hbm => 341
  | .vmem => 0
  | .smem => 0
  | _ => 0

abbrev hbmTy0_0 (i : Nat) : BufTy := match i % 128 with
  | 0 => ⟨S2x16384x1024, .f32⟩
  | 1 => ⟨S32768x512, .bf16⟩
  | 2 => ⟨S32768x256, .bf16⟩
  | 3 => ⟨S32768x512, .f32⟩
  | 4 => ⟨S32768x1024, .f32⟩
  | 5 => ⟨S32768x3072, .f32⟩
  | 6 => ⟨S32x8, .f32⟩
  | 7 => ⟨S8, .f32⟩
  | 8 => ⟨S4x128x128, .f32⟩
  | 9 => ⟨S512, .f32⟩
  | 10 => ⟨S512, .f32⟩
  | 11 => ⟨S4x128x128, .f32⟩
  | 12 => ⟨S4x128, .f32⟩
  | 13 => ⟨S512x1024, .f32⟩
  | 14 => ⟨S512x1024, .f32⟩
  | 15 => ⟨S512x1024, .f32⟩
  | 16 => ⟨S1024x1024, .f32⟩
  | 17 => ⟨S3072, .f32⟩
  | 18 => ⟨S32768x512, .f32⟩
  | 19 => ⟨S2x16384x512, .f32⟩
  | 20 => ⟨S32768x256, .f32⟩
  | 21 => ⟨S2x16384x256, .f32⟩
  | 22 => ⟨S2x16384x128, .f32⟩
  | 23 => ⟨S2x16384x128, .f32⟩
  | 24 => ⟨S2x16384x512, .f32⟩
  | 25 => ⟨S2x16384x1024, .f32⟩
  | 26 => ⟨S2x16384x512, .f32⟩
  | 27 => ⟨S2x16384x512, .f32⟩
  | 28 => ⟨S2x16384x3072, .f32⟩
  | 29 => ⟨S1x1x3072, .f32⟩
  | 30 => ⟨S2x16384x3072, .f32⟩
  | 31 => ⟨S2x16384x3072, .f32⟩
  | 32 => ⟨S2x16384x3072, .f32⟩
  | 33 => ⟨S2x16384x3072, .f32⟩
  | 34 => ⟨S_, .f32⟩
  | 35 => ⟨S2x16384x3072, .f32⟩
  | 36 => ⟨S2x16384x3072, .f32⟩
  | 37 => ⟨S_, .f32⟩
  | 38 => ⟨S2x16384x3072, .f32⟩
  | 39 => ⟨S2x16384x3072, .f32⟩
  | 40 => ⟨S2x16384x3x1024, .f32⟩
  | 41 => ⟨S2x128x128x2x4x64, .f32⟩
  | 42 => ⟨S2x128x128x2x64, .f32⟩
  | 43 => ⟨S2x128x128x2x64, .f32⟩
  | 44 => ⟨S_, .i32⟩
  | 45 => ⟨S_, .f32⟩
  | 46 => ⟨S2x129x128x2x64, .f32⟩
  | 47 => ⟨S2x128x128x2x64, .f32⟩
  | 48 => ⟨S2x128x256x2x64, .f32⟩
  | 49 => ⟨S_, .i32⟩
  | 50 => ⟨S_, .f32⟩
  | 51 => ⟨S2x129x128x2x64, .f32⟩
  | 52 => ⟨S2x128x128x2x64, .f32⟩
  | 53 => ⟨S2x128x256x2x64, .f32⟩
  | 54 => ⟨S2x128x2x256x128x4, .f32⟩
  | 55 => ⟨S2x128x2x4x128x256, .f32⟩
  | 56 => ⟨S_, .f32⟩
  | 57 => ⟨S2x128x2x4x128x256, .f32⟩
  | 58 => ⟨S2x128x2x4x128x256, .f32⟩
  | 59 => ⟨S128, .i32⟩
  | 60 => ⟨S128x1, .i32⟩
  | 61 => ⟨S256, .i32⟩
  | 62 => ⟨S1x256, .i32⟩
  | 63 => ⟨S_, .i32⟩
  | 64 => ⟨S128x1, .i32⟩
  | 65 => ⟨S128x1, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i32⟩
  | 82 => ⟨S128x256, .f32⟩
  | 83 => ⟨S_, .f32⟩
  | 84 => ⟨S128x256, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S_, .f32⟩
  | 91 => ⟨S128x256, .f32⟩
  | 92 => ⟨S128x256, .f32⟩
  | 93 => ⟨S128x256, .i32⟩
  | 94 => ⟨S_, .i32⟩
  | 95 => ⟨S128x256, .i32⟩
  | 96 => ⟨S128x256, .i32⟩
  | 97 => ⟨S_, .i32⟩
  | 98 => ⟨S128x256, .i32⟩
  | 99 => ⟨S128x256, .i32⟩
  | 100 => ⟨S_, .i32⟩
  | 101 => ⟨S128x256, .i32⟩
  | 102 => ⟨S128x256, .i1⟩
  | 103 => ⟨S128x256, .i32⟩
  | 104 => ⟨S_, .i32⟩
  | 105 => ⟨S128x256, .i32⟩
  | 106 => ⟨S128x256, .i1⟩
  | 107 => ⟨S_, .i32⟩
  | 108 => ⟨S128x256, .i32⟩
  | 109 => ⟨S128x256, .i32⟩
  | 110 => ⟨S128x256, .i32⟩
  | 111 => ⟨S128x256x1, .i32⟩
  | 112 => ⟨S128x256x8, .f32⟩
  | 113 => ⟨S8x128x256, .f32⟩
  | 114 => ⟨S2x4x128x256, .f32⟩
  | 115 => ⟨S128, .i32⟩
  | 116 => ⟨S_, .i32⟩
  | 117 => ⟨S128, .i32⟩
  | 118 => ⟨S128, .i1⟩
  | 119 => ⟨S128x1x1, .i1⟩
  | 120 => ⟨S_, .i32⟩
  | 121 => ⟨S1x256, .i32⟩
  | 122 => ⟨S1x256, .i1⟩
  | 123 => ⟨S1x1x256, .i1⟩
  | 124 => ⟨S128x1x256, .i1⟩
  | 125 => ⟨S128x1x256, .i1⟩
  | 126 => ⟨S128x1x256, .i1⟩
  | 127 => ⟨S1x128x256, .i1⟩
  | _ => ⟨S2x16384x1024, .f32⟩

abbrev hbmTy0_1 (i : Nat) : BufTy := match i % 128 with
  | 0 => ⟨S128x1x256, .i1⟩
  | 1 => ⟨S128x128x256, .i1⟩
  | 2 => ⟨S128x128x256, .i1⟩
  | 3 => ⟨S128x128x256, .i1⟩
  | 4 => ⟨S1x128x1x1x128x256, .i1⟩
  | 5 => ⟨S1x1x2x4x128x256, .f32⟩
  | 6 => ⟨S2x128x2x4x128x256, .f32⟩
  | 7 => ⟨S2x128x2x4x128x256, .f32⟩
  | 8 => ⟨S_, .f32⟩
  | 9 => ⟨S_, .f32⟩
  | 10 => ⟨S2x128x2x4x128x256, .i1⟩
  | 11 => ⟨S2x128x2x4x128x256, .f32⟩
  | 12 => ⟨S2x128x2x4x128x256, .f32⟩
  | 13 => ⟨S2x4, .f32⟩
  | 14 => ⟨S2x4x1x1, .f32⟩
  | 15 => ⟨S_, .f32⟩
  | 16 => ⟨S2x128x2x4x128, .f32⟩
  | 17 => ⟨S2x128x2x4x128x1, .f32⟩
  | 18 => ⟨S1x1x2x4x1x1, .f32⟩
  | 19 => ⟨S2x128x2x4x128x1, .f32⟩
  | 20 => ⟨S2x128x2x4x128x1, .f32⟩
  | 21 => ⟨S2x128x2x4x128x256, .f32⟩
  | 22 => ⟨S2x128x2x4x128x256, .f32⟩
  | 23 => ⟨S2x128x2x4x128x256, .f32⟩
  | 24 => ⟨S_, .f32⟩
  | 25 => ⟨S2x128x2x4x128, .f32⟩
  | 26 => ⟨S2x128x2x4x128x1, .f32⟩
  | 27 => ⟨S1x1x2x4x1x1, .f32⟩
  | 28 => ⟨S2x128x2x4x128x1, .f32⟩
  | 29 => ⟨S2x128x2x4x128x1, .f32⟩
  | 30 => ⟨S2x128x2x4x128x1, .f32⟩
  | 31 => ⟨S2x128x2x4x128x1, .f32⟩
  | 32 => ⟨S2x128x2x4x128x256, .f32⟩
  | 33 => ⟨S2x128x2x4x128x256, .f32⟩
  | 34 => ⟨S2x128x2x64x4x128, .f32⟩
  | 35 => ⟨S2x128x128x2x4x64, .f32⟩
  | 36 => ⟨S2x16384x512, .f32⟩
  | 37 => ⟨S2x16384x1024, .f32⟩
  | 38 => ⟨S2x16384x4x128, .f32⟩
  | 39 => ⟨S_, .f32⟩
  | 40 => ⟨S_, .f32⟩
  | 41 => ⟨S2x16384x4x128, .f32⟩
  | 42 => ⟨S16384, .f32⟩
  | 43 => ⟨S_, .f32⟩
  | 44 => ⟨S16384, .f32⟩
  | 45 => ⟨S16384, .f32⟩
  | 46 => ⟨S2x16384x1x128, .f32⟩
  | 47 => ⟨S2x16384x128, .f32⟩
  | 48 => ⟨S_, .i32⟩
  | 49 => ⟨S_, .f32⟩
  | 50 => ⟨S2x16386x128, .f32⟩
  | 51 => ⟨S2x16384x128, .f32⟩
  | 52 => ⟨S2x16384x128, .f32⟩
  | 53 => ⟨S_, .f32⟩
  | 54 => ⟨S16384, .f32⟩
  | 55 => ⟨S16384, .f32⟩
  | 56 => ⟨S1x16384x1, .f32⟩
  | 57 => ⟨S2x16384x128, .f32⟩
  | 58 => ⟨S2x16384x128, .f32⟩
  | 59 => ⟨S2x16384x1x128, .f32⟩
  | 60 => ⟨S2x16384x128, .f32⟩
  | 61 => ⟨S2x16384x128, .f32⟩
  | 62 => ⟨S2x16384x1x128, .f32⟩
  | 63 => ⟨S2x16384x128, .f32⟩
  | 64 => ⟨S_, .i32⟩
  | 65 => ⟨S_, .f32⟩
  | 66 => ⟨S2x16388x128, .f32⟩
  | 67 => ⟨S2x16384x128, .f32⟩
  | 68 => ⟨S2x16384x128, .f32⟩
  | 69 => ⟨S_, .f32⟩
  | 70 => ⟨S16384, .f32⟩
  | 71 => ⟨S16384, .f32⟩
  | 72 => ⟨S1x16384x1, .f32⟩
  | 73 => ⟨S2x16384x128, .f32⟩
  | 74 => ⟨S2x16384x128, .f32⟩
  | 75 => ⟨S2x16384x1x128, .f32⟩
  | 76 => ⟨S2x16384x128, .f32⟩
  | 77 => ⟨S2x16384x128, .f32⟩
  | 78 => ⟨S2x16384x1x128, .f32⟩
  | 79 => ⟨S2x16384x128, .f32⟩
  | 80 => ⟨S_, .i32⟩
  | 81 => ⟨S_, .f32⟩
  | 82 => ⟨S2x16392x128, .f32⟩
  | 83 => ⟨S2x16384x128, .f32⟩
  | 84 => ⟨S2x16384x128, .f32⟩
  | 85 => ⟨S_, .f32⟩
  | 86 => ⟨S16384, .f32⟩
  | 87 => ⟨S16384, .f32⟩
  | 88 => ⟨S1x16384x1, .f32⟩
  | 89 => ⟨S2x16384x128, .f32⟩
  | 90 => ⟨S2x16384x128, .f32⟩
  | 91 => ⟨S2x16384x1x128, .f32⟩
  | 92 => ⟨S2x16384x128, .f32⟩
  | 93 => ⟨S2x16384x128, .f32⟩
  | 94 => ⟨S2x16384x1x128, .f32⟩
  | 95 => ⟨S2x16384x128, .f32⟩
  | 96 => ⟨S_, .i32⟩
  | 97 => ⟨S_, .f32⟩
  | 98 => ⟨S2x16400x128, .f32⟩
  | 99 => ⟨S2x16384x128, .f32⟩
  | 100 => ⟨S2x16384x128, .f32⟩
  | 101 => ⟨S_, .f32⟩
  | 102 => ⟨S16384, .f32⟩
  | 103 => ⟨S16384, .f32⟩
  | 104 => ⟨S1x16384x1, .f32⟩
  | 105 => ⟨S2x16384x128, .f32⟩
  | 106 => ⟨S2x16384x128, .f32⟩
  | 107 => ⟨S2x16384x1x128, .f32⟩
  | 108 => ⟨S2x16384x128, .f32⟩
  | 109 => ⟨S2x16384x128, .f32⟩
  | 110 => ⟨S2x16384x1x128, .f32⟩
  | 111 => ⟨S2x16384x1x128, .f32⟩
  | 112 => ⟨S2x16384x1x128, .f32⟩
  | 113 => ⟨S2x16384x1x128, .f32⟩
  | 114 => ⟨S2x16384x4x128, .f32⟩
  | 115 => ⟨S4x128x2x16384, .f32⟩
  | 116 => ⟨S2x16384x4x128, .f32⟩
  | 117 => ⟨S2x16384x512, .f32⟩
  | 118 => ⟨S1x1x512, .f32⟩
  | 119 => ⟨S2x16384x512, .f32⟩
  | 120 => ⟨S2x16384x512, .f32⟩
  | 121 => ⟨S2x16384x1024, .f32⟩
  | 122 => ⟨S2x16384x512, .f32⟩
  | 123 => ⟨S2x16384x512, .f32⟩
  | 124 => ⟨S_, .f32⟩
  | 125 => ⟨S2x16384x512, .f32⟩
  | 126 => ⟨S2x16384x512, .f32⟩
  | 127 => ⟨S2x16384x512, .f32⟩
  | _ => ⟨S2x16384x1024, .f32⟩

abbrev hbmTy0_2 (i : Nat) : BufTy := match i % 128 with
  | 0 => ⟨S_, .f32⟩
  | 1 => ⟨S2x16384x512, .f32⟩
  | 2 => ⟨S2x16384x512, .f32⟩
  | 3 => ⟨S2x16384x512, .f32⟩
  | 4 => ⟨S_, .f32⟩
  | 5 => ⟨S2x16384x512, .f32⟩
  | 6 => ⟨S2x16384x512, .f32⟩
  | 7 => ⟨S_, .f32⟩
  | 8 => ⟨S2x16384x512, .f32⟩
  | 9 => ⟨S2x16384x512, .f32⟩
  | 10 => ⟨S2x16384x512, .f32⟩
  | 11 => ⟨S2x16384x512, .f32⟩
  | 12 => ⟨S2x16384x512, .f32⟩
  | 13 => ⟨S_, .f32⟩
  | 14 => ⟨S2x16384x512, .f32⟩
  | 15 => ⟨S2x16384x512, .f32⟩
  | 16 => ⟨S2x16384x512, .f32⟩
  | 17 => ⟨S_, .f32⟩
  | 18 => ⟨S2x16384x512, .f32⟩
  | 19 => ⟨S2x16384x512, .f32⟩
  | 20 => ⟨S2x16384x512, .f32⟩
  | 21 => ⟨S_, .f32⟩
  | 22 => ⟨S2x16384x512, .f32⟩
  | 23 => ⟨S2x16384x512, .f32⟩
  | 24 => ⟨S_, .f32⟩
  | 25 => ⟨S2x16384x512, .f32⟩
  | 26 => ⟨S2x16384x512, .f32⟩
  | 27 => ⟨S2x16384x512, .f32⟩
  | 28 => ⟨S2x16384x512, .f32⟩
  | 29 => ⟨S_, .f32⟩
  | 30 => ⟨S2x16384, .f32⟩
  | 31 => ⟨S2x16384x1, .f32⟩
  | 32 => ⟨S_, .f32⟩
  | 33 => ⟨S2x16384x1, .f32⟩
  | 34 => ⟨S2x16384x1, .f32⟩
  | 35 => ⟨S_, .f32⟩
  | 36 => ⟨S2x16384x1, .f32⟩
  | 37 => ⟨S2x16384x1, .f32⟩
  | 38 => ⟨S2x16384x1, .f32⟩
  | 39 => ⟨S2x16384x512, .f32⟩
  | 40 => ⟨S2x16384x512, .f32⟩
  | 41 => ⟨S1x1x512, .f32⟩
  | 42 => ⟨S2x16384x512, .f32⟩
  | 43 => ⟨S2x16384x512, .f32⟩
  | 44 => ⟨S2x128x128x4x128, .f32⟩
  | 45 => ⟨S_, .i1⟩
  | 46 => ⟨S128x128, .i1⟩
  | 47 => ⟨S128x128, .i32⟩
  | 48 => ⟨S_, .i32⟩
  | 49 => ⟨S128x128, .i32⟩
  | 50 => ⟨S128x128, .i32⟩
  | 51 => ⟨S128x128, .i32⟩
  | 52 => ⟨S128x128, .i1⟩
  | 53 => ⟨S_, .i1⟩
  | 54 => ⟨S128x128, .i1⟩
  | 55 => ⟨S128x128, .i1⟩
  | 56 => ⟨S1x128x128, .i1⟩
  | 57 => ⟨S_, .f32⟩
  | 58 => ⟨S4x128x128, .f32⟩
  | 59 => ⟨S4x128x128, .i1⟩
  | 60 => ⟨S4x128x128, .f32⟩
  | 61 => ⟨S4x2x128x128x128, .f32⟩
  | 62 => ⟨S2x128x128x4x128, .f32⟩
  | 63 => ⟨S128x4, .f32⟩
  | 64 => ⟨S128x4x1, .f32⟩
  | 65 => ⟨S1x1x128x4x1, .f32⟩
  | 66 => ⟨S2x128x128x4x128, .f32⟩
  | 67 => ⟨S2x128x128x4x128, .f32⟩
  | 68 => ⟨S2x16384x512, .f32⟩
  | 69 => ⟨S2x16384x512, .f32⟩
  | 70 => ⟨S2x16384x1024, .f32⟩
  | 71 => ⟨S2x16384x1x1024, .f32⟩
  | 72 => ⟨S2x16384x1024, .f32⟩
  | 73 => ⟨S2x16384x1024, .f32⟩
  | 74 => ⟨S2x16384x1x1024, .f32⟩
  | 75 => ⟨S2x16384x1024, .f32⟩
  | 76 => ⟨S2x16384x1024, .f32⟩
  | 77 => ⟨S2x16384x1024, .f32⟩
  | 78 => ⟨S2x16384x1x1024, .f32⟩
  | 79 => ⟨S2x16384x1024, .f32⟩
  | 80 => ⟨S2x16384x1024, .f32⟩
  | 81 => ⟨S2x16384x1024, .f32⟩
  | 82 => ⟨S2x16384x1024, .f32⟩
  | 83 => ⟨S2x16384x1024, .f32⟩
  | 84 => ⟨S32768x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_call0_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_1 : Ref sig .tc := ⟨.hbm, 49, rfl⟩
abbrev main_call1_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_v43 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_6 : Ref sig .tc := ⟨.hbm, 76, rfl⟩
abbrev main_v48 : Ref sig .tc := ⟨.hbm, 77, rfl⟩
abbrev main_v49 : Ref sig .tc := ⟨.hbm, 78, rfl⟩
abbrev main_c_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_20 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_call4_call0_cst : Ref sig .tc := ⟨.hbm, 167, rfl⟩
abbrev main_call4_call0_v0 : Ref sig .tc := ⟨.hbm, 168, rfl⟩
abbrev main_v121 : Ref sig .tc := ⟨.hbm, 169, rfl⟩
abbrev main_v122 : Ref sig .tc := ⟨.hbm, 170, rfl⟩
abbrev main_cst_21 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_22 : Ref sig .tc := ⟨.hbm, 176, rfl⟩
abbrev main_call5_v0 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_23 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_c_24 : Ref sig .tc := ⟨.hbm, 192, rfl⟩
abbrev main_call6_v0 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_25 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_26 : Ref sig .tc := ⟨.hbm, 208, rfl⟩
abbrev main_call7_v0 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_27 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_c_28 : Ref sig .tc := ⟨.hbm, 224, rfl⟩
abbrev main_call8_v0 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_29 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_30 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_31 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_32 : Ref sig .tc := ⟨.hbm, 260, rfl⟩
abbrev main_v197 : Ref sig .tc := ⟨.hbm, 261, rfl⟩
abbrev main_v198 : Ref sig .tc := ⟨.hbm, 262, rfl⟩
abbrev main_cst_33 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_cst_34 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_cst_35 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_cst_36 : Ref sig .tc := ⟨.hbm, 277, rfl⟩
abbrev main_v210 : Ref sig .tc := ⟨.hbm, 278, rfl⟩
abbrev main_v211 : Ref sig .tc := ⟨.hbm, 279, rfl⟩
abbrev main_cst_37 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_cst_38 : Ref sig .tc := ⟨.hbm, 285, rfl⟩
abbrev main_v216 : Ref sig .tc := ⟨.hbm, 286, rfl⟩
abbrev main_v217 : Ref sig .tc := ⟨.hbm, 287, rfl⟩
abbrev main_cst_39 : Ref sig .tc := ⟨.hbm, 288, rfl⟩
abbrev main_v218 : Ref sig .tc := ⟨.hbm, 289, rfl⟩
abbrev main_v219 : Ref sig .tc := ⟨.hbm, 290, rfl⟩
abbrev main_cst_40 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_c_41 : Ref sig .tc := ⟨.hbm, 301, rfl⟩
abbrev main_v229 : Ref sig .tc := ⟨.hbm, 302, rfl⟩
abbrev main_call9_v0 : Ref sig .tc := ⟨.hbm, 303, rfl⟩
abbrev main_call9_c : Ref sig .tc := ⟨.hbm, 304, rfl⟩
abbrev main_call9_v1 : Ref sig .tc := ⟨.hbm, 305, rfl⟩
abbrev main_call9_v2 : Ref sig .tc := ⟨.hbm, 306, rfl⟩
abbrev main_call9_v3 : Ref sig .tc := ⟨.hbm, 307, rfl⟩
abbrev main_call9_v4 : Ref sig .tc := ⟨.hbm, 308, rfl⟩
abbrev main_call9_c_0 : Ref sig .tc := ⟨.hbm, 309, rfl⟩
abbrev main_call9_v5 : Ref sig .tc := ⟨.hbm, 310, rfl⟩
abbrev main_v230 : Ref sig .tc := ⟨.hbm, 311, rfl⟩
abbrev main_v231 : Ref sig .tc := ⟨.hbm, 312, rfl⟩
abbrev main_cst_42 : Ref sig .tc := ⟨.hbm, 313, rfl⟩
abbrev main_v232 : Ref sig .tc := ⟨.hbm, 314, rfl⟩
abbrev main_call10_v0 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩

abbrev nD : Nat := 1
abbrev τ : Topo := Topo.v7x

variable {F : FTy → Type} [FloatOps F]
-- ==== InProj.lean ====
abbrev S2x16384x1024 : Shape := ⟨3, ![2, 16384, 1024]⟩
abbrev S1024 : Shape := ⟨1, ![1024]⟩
abbrev S1024x5376 : Shape := ⟨2, ![1024, 5376]⟩
abbrev S32768x1024 : Shape := ⟨2, ![32768, 1024]⟩
abbrev S1x1024 : Shape := ⟨2, ![1, 1024]⟩
abbrev S32768x512 : Shape := ⟨2, ![32768, 512]⟩
abbrev S32768x256 : Shape := ⟨2, ![32768, 256]⟩
abbrev S32768x3072 : Shape := ⟨2, ![32768, 3072]⟩
abbrev S256x1024 : Shape := ⟨2, ![256, 1024]⟩
abbrev S256x512 : Shape := ⟨2, ![256, 512]⟩
abbrev S256x256 : Shape := ⟨2, ![256, 256]⟩
abbrev S256x3072 : Shape := ⟨2, ![256, 3072]⟩
abbrev S256 : Shape := ⟨1, ![256]⟩
abbrev S256x1 : Shape := ⟨2, ![256, 1]⟩
abbrev S1024x512 : Shape := ⟨2, ![1024, 512]⟩
abbrev S1024x256 : Shape := ⟨2, ![1024, 256]⟩
abbrev S1024x1024 : Shape := ⟨2, ![1024, 1024]⟩
abbrev S1024x3072 : Shape := ⟨2, ![1024, 3072]⟩

abbrev nBuf : Space → Nat
  | .hbm => 11
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5376, .f32⟩
  | .hbm, ⟨3, _⟩ => ⟨S32768x1024, .f32⟩
  | .hbm, ⟨4, _⟩ => ⟨S1x1024, .f32⟩
  | .hbm, ⟨5, _⟩ => ⟨S1024x5376, .bf16⟩
  | .hbm, ⟨6, _⟩ => ⟨S32768x512, .bf16⟩
  | .hbm, ⟨7, _⟩ => ⟨S32768x256, .bf16⟩
  | .hbm, ⟨8, _⟩ => ⟨S32768x512, .f32⟩
  | .hbm, ⟨9, _⟩ => ⟨S32768x1024, .f32⟩
  | .hbm, ⟨10, _⟩ => ⟨S32768x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x3072, .f32⟩
  | .local _ .vmem, ⟨13, _⟩ => ⟨S256x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjReferenceIdeal.lean ====
abbrev S2x16384x1024 : Shape := ⟨3, ![2, 16384, 1024]⟩
abbrev S1024 : Shape := ⟨1, ![1024]⟩
abbrev S1024x5376 : Shape := ⟨2, ![1024, 5376]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5376 : Shape := ⟨3, ![2, 16384, 5376]⟩
abbrev S32768x5376 : Shape := ⟨2, ![32768, 5376]⟩
abbrev S32768x512 : Shape := ⟨2, ![32768, 512]⟩
abbrev S32768x256 : Shape := ⟨2, ![32768, 256]⟩
abbrev S32768x1024 : Shape := ⟨2, ![32768, 1024]⟩
abbrev S32768x3072 : Shape := ⟨2, ![32768, 3072]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5376, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x5376, .f32⟩
  | .hbm, ⟨20, _⟩ => ⟨S32768x5376, .f32⟩
  | .hbm, ⟨21, _⟩ => ⟨S32768x512, .f32⟩
  | .hbm, ⟨22, _⟩ => ⟨S32768x256, .f32⟩
  | .hbm, ⟨23, _⟩ => ⟨S32768x512, .f32⟩
  | .hbm, ⟨24, _⟩ => ⟨S32768x1024, .f32⟩
  | .hbm, ⟨25, _⟩ => ⟨S32768x3072, .f32⟩
  | .hbm, ⟨26, _⟩ => ⟨S32768x512, .bf16⟩
  | .hbm, ⟨27, _⟩ => ⟨S32768x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== FinalNorm.lean ====
abbrev S2x16384x1024 : Shape := ⟨3, ![2, 16384, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x1024, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S1x1x1024, .f32⟩
  | .hbm, ⟨16, _⟩ => ⟨S2x16384x1024, .f32⟩
  | .hbm, ⟨17, _⟩ => ⟨S2x16384x1024, .f32⟩
  | .hbm, ⟨18, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Run.IdealBody.lean ====
/- The run of the mixer body of `KernelIdeal` on whole staging buffers: the generated run module with a larger budget. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S8 .f32) (harg2 : arg2.IsWhole) (arg3 : Memref sig .tc .vmem S128x1024 .f32) (harg3 : arg3.IsWhole) (arg4 : Memref sig .tc .vmem S128x512 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x512 .f32) (harg7 : arg7.IsWhole) (arg8 : Memref sig .tc .vmem S16x512 .f32) (harg8 : arg8.IsWhole) (arg9 : Memref sig .tc .vmem S128x1024 .f32) (harg9 : arg9.IsWhole) (arg10 : Memref sig .tc .vmem S128x3072 .f32) (harg10 : arg10.IsWhole) (arg11 : Memref sig .tc .vmem S8x128x256 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S1x3072 .f32) (harg21 : arg21.IsWhole) (arg22 : Memref sig .tc .vmem S128x1024 .f32) (harg22 : arg22.IsWhole)
    (x0 : Vec F S8 .f32) (x1 : Vec F S128x1024 .f32) (x2 : Vec F S128x512 .bf16) (x3 : Vec F S128x256 .bf16) (x4 : Vec F S128x256 .bf16) (x5 : Vec F S128x512 .f32) (x6 : Vec F S16x512 .f32) (x7 : Vec F S128x1024 .f32) (x8 : Vec F S128x3072 .f32) (x9 : Vec F S8x128x256 .f32) (x10 : Vec F S4x128x128 .bf16) (x11 : Vec F S1x512 .f32) (x12 : Vec F S1x512 .f32) (x13 : Vec F S4x128x128 .f32) (x14 : Vec F S128x4 .f32) (x15 : Vec F S512x1024 .bf16) (x16 : Vec F S512x1024 .bf16) (x17 : Vec F S512x1024 .bf16) (x18 : Vec F S1024x1024 .bf16) (x19 : Vec F S1x3072 .f32) :
    { L20 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    iexists _; iexact H20

end Cert.KernelIdeal.Gen

end
-- ==== Proof.Run.IdealFrame.lean ====
/- What the mixer kernel `KernelIdeal` leaves point by point, its run and its frame: the generated module over `Run.IdealBody`. -/
module

public import proofs.«01_k».proof.Proof.Run.IdealBody
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 20 tile its block (1 store of `S128x1024`, checked by the kernel's evaluation: Lib/Ring.lean `Piece.tiledL`, linear in the pieces, through a loop's `@[irreducible]` trip theorem too), so they cover it. -/
theorem cover0_A_20 (c : Dev nD) (i : grid0.Coords) (arg2 : Memref sig .tc .smem S8 .f32) (harg2 : arg2.IsWhole) (arg3 : Memref sig .tc .vmem S128x1024 .f32) (harg3 : arg3.IsWhole) (arg4 : Memref sig .tc .vmem S128x512 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x512 .f32) (harg7 : arg7.IsWhole) (arg8 : Memref sig .tc .vmem S16x512 .f32) (harg8 : arg8.IsWhole) (arg9 : Memref sig .tc .vmem S128x1024 .f32) (harg9 : arg9.IsWhole) (arg10 : Memref sig .tc .vmem S128x3072 .f32) (harg10 : arg10.IsWhole) (arg11 : Memref sig .tc .vmem S8x128x256 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S1x3072 .f32) (harg21 : arg21.IsWhole) (arg22 : Memref sig .tc .vmem S128x1024 .f32) (harg22 : arg22.IsWhole)
    (x0 : Vec F S8 .f32) (x1 : Vec F S128x1024 .f32) (x2 : Vec F S128x512 .bf16) (x3 : Vec F S128x256 .bf16) (x4 : Vec F S128x256 .bf16) (x5 : Vec F S128x512 .f32) (x6 : Vec F S16x512 .f32) (x7 : Vec F S128x1024 .f32) (x8 : Vec F S128x3072 .f32) (x9 : Vec F S8x128x256 .f32) (x10 : Vec F S4x128x128 .bf16) (x11 : Vec F S1x512 .f32) (x12 : Vec F S1x512 .f32) (x13 : Vec F S4x128x128 .f32) (x14 : Vec F S128x4 .f32) (x15 : Vec F S512x1024 .bf16) (x16 : Vec F S512x1024 .bf16) (x17 : Vec F S512x1024 .bf16) (x18 : Vec F S1024x1024 .bf16) (x19 : Vec F S1x3072 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1 S128x1024.size (by sl_kernel_rfl) y

/-- What the run leaves in output 20's staging buffer: its pieces read back over junk. -/
def out0_A_20 (c : Dev nD) (i : grid0.Coords) (arg2 : Memref sig .tc .smem S8 .f32) (harg2 : arg2.IsWhole) (arg3 : Memref sig .tc .vmem S128x1024 .f32) (harg3 : arg3.IsWhole) (arg4 : Memref sig .tc .vmem S128x512 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x512 .f32) (harg7 : arg7.IsWhole) (arg8 : Memref sig .tc .vmem S16x512 .f32) (harg8 : arg8.IsWhole) (arg9 : Memref sig .tc .vmem S128x1024 .f32) (harg9 : arg9.IsWhole) (arg10 : Memref sig .tc .vmem S128x3072 .f32) (harg10 : arg10.IsWhole) (arg11 : Memref sig .tc .vmem S8x128x256 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S1x3072 .f32) (harg21 : arg21.IsWhole) (arg22 : Memref sig .tc .vmem S128x1024 .f32) (harg22 : arg22.IsWhole)
    (x0 : Vec F S8 .f32) (x1 : Vec F S128x1024 .f32) (x2 : Vec F S128x512 .bf16) (x3 : Vec F S128x256 .bf16) (x4 : Vec F S128x256 .bf16) (x5 : Vec F S128x512 .f32) (x6 : Vec F S16x512 .f32) (x7 : Vec F S128x1024 .f32) (x8 : Vec F S128x3072 .f32) (x9 : Vec F S8x128x256 .f32) (x10 : Vec F S4x128x128 .bf16) (x11 : Vec F S1x512 .f32) (x12 : Vec F S1x512 .f32) (x13 : Vec F S4x128x128 .f32) (x14 : Vec F S128x4 .f32) (x15 : Vec F S512x1024 .bf16) (x16 : Vec F S512x1024 .bf16) (x17 : Vec F S512x1024 .bf16) (x18 : Vec F S1024x1024 .bf16) (x19 : Vec F S1x3072 .f32) : Vec F S128x1024 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19).1)

/-! ## What the outputs hold after each point -/

/-- What the outputs' staging buffers hold after the body at point `t`: the run's contents at
    the point's memrefs and input blocks. -/
def outsAt0 (c : Dev nD) (t : Fin cfg0.N) : Vec F S128x1024 .f32 :=
  out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t)
    | ⟨_ + 21, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen

end
-- ==== Proof.Run.IdealValue.lean ====
/- The mixer's output array block by block after the run: the generated module over `Run.IdealFrame`. -/
module

public import proofs.«01_k».proof.Proof.Run.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 20's array: the run's contents for that window after the body (`Gen.outsAt0`), read through the window's block. -/
theorem flushed20 (c : Dev nD) (t : Fin cfg0.N) :
    (dats m 0 c).flushed 20 t = (cfg0.win 20).cut (grid0.coords t) (outsAt0 m c t) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed20, outsAt0]

/-- The block index on axis 0 is the point's position in the pipeline's order, `t.val` (decided over the 256 points), -/
theorem idx_pt20 : ∀ t : Fin cfg0.N, win0_20.index t ⟨0, by decide⟩ = t.val :=
  (by decide +kernel : ∀ t : Fin grid0.N, win0_20.index t ⟨0, by decide⟩ = t.val)

/-- so the index map sends distinct grid points to distinct block indices. -/
theorem idx_inj20 : ∀ t t' : Fin cfg0.N, win0_20.index t = win0_20.index t' → t = t' :=
  fun t t' h => Fin.ext (by rw [← idx_pt20 t, ← idx_pt20 t', h])

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32768x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v47) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 7 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 0 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 0).trans (((dats m 0 c).arrAt_in 0 rfl _).trans ((A_eq m c 0).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 13 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 13).trans (((dats m 0 c).arrAt_in 13 rfl _).trans ((A_eq m c 13).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v47) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.KernelIdeal.Value

end
-- ==== Proof.Mix.Rows.lean ====
/- Facts about one row of the mixer, over extended reals and no program: an attention head with its division after or
   before the weighted sum of values, the window sums of the pooling branch, the sum over one folded axis. -/
module

public import Idealize.ShloMosaic.PureOps.Ideal
public import Mathlib.Data.EReal.Operations

@[expose] public section

noncomputable section

namespace Cert.Mix

open Idealize.ShloMosaic
open scoped BigOperators

/-- The greatest of the logits and the sink. -/
def top {K : ℕ} (l : Fin K → EReal) (s : EReal) : EReal := max (Finset.univ.fold max ⊥ l) s

/-- The softmax denominator, the sink among its terms. -/
def den {K : ℕ} (l : Fin K → EReal) (s : EReal) : EReal :=
  (∑ k, Ideal.exp (l k - top l s)) + Ideal.exp (s - top l s)

/-- A head's output: the weighted sum of values, then one division. -/
def head {K : ℕ} (l : Fin K → EReal) (V : Fin K → EReal) (s : EReal) : EReal :=
  Ideal.div (∑ k, Ideal.exp (l k - top l s) * V k) (den l s)

/-- A finite extended real. -/
def Fin' (x : EReal) : Prop := ∃ r : ℝ, x = r

theorem fin_of_ne {x : EReal} (h1 : x ≠ ⊥) (h2 : x ≠ ⊤) : Fin' x := ⟨x.toReal, (EReal.coe_toReal h2 h1).symm⟩
theorem Fin'.ne_bot {x : EReal} (h : Fin' x) : x ≠ ⊥ := by obtain ⟨r, rfl⟩ := h; exact EReal.coe_ne_bot r
theorem Fin'.ne_top {x : EReal} (h : Fin' x) : x ≠ ⊤ := by obtain ⟨r, rfl⟩ := h; exact EReal.coe_ne_top r
theorem Fin'.add {x y : EReal} (h : Fin' x) (h' : Fin' y) : Fin' (x + y) := by
  obtain ⟨r, rfl⟩ := h; obtain ⟨q, rfl⟩ := h'; exact ⟨r + q, (EReal.coe_add r q).symm⟩
theorem Fin'.mul {x y : EReal} (h : Fin' x) (h' : Fin' y) : Fin' (x * y) := by
  obtain ⟨r, rfl⟩ := h; obtain ⟨q, rfl⟩ := h'; exact ⟨r * q, (EReal.coe_mul r q).symm⟩
theorem Fin'.zero : Fin' 0 := ⟨0, rfl⟩
theorem Fin'.sum {ι : Type} (S : Finset ι) {f : ι → EReal} (h : ∀ i ∈ S, Fin' (f i)) : Fin' (∑ i ∈ S, f i) := by
  classical
  induction S using Finset.induction_on with
  | empty => exact Fin'.zero
  | insert a S ha ih =>
    rw [Finset.sum_insert ha]
    exact (h a (Finset.mem_insert_self a S)).add (ih fun i hi => h i (Finset.mem_insert_of_mem hi))

/-- A finite factor that is not negative goes under a sum, whatever the terms are. -/
theorem sum_mul_coe {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih, mul_comm, EReal.left_distrib_of_nonneg_of_ne_top
      (by exact_mod_cast hc) (EReal.coe_ne_top c), mul_comm, mul_comm (c : EReal)]

theorem top_fin {K : ℕ} (l : Fin K → EReal) (s : EReal) (hs : Fin' s) (hl : ∀ k, l k ≠ ⊤) : Fin' (top l s) := by
  refine fin_of_ne (fun h => ?_) (fun h => ?_)
  · have : s ≤ ⊥ := h ▸ le_max_right _ _
    exact hs.ne_bot (le_bot_iff.1 this)
  · have h2 : top l s < ⊤ := by
      refine max_lt ?_ (lt_top_iff_ne_top.2 hs.ne_top)
      exact (Finset.fold_max_lt _).2 ⟨bot_lt_top, fun k _ => lt_top_iff_ne_top.2 (hl k)⟩
    exact h2.ne h

/-- The head with the division inside the sum: equal when the sink and every logit that is not `⊥` are finite, the
    values being read only where the logit is not `⊥`. -/
theorem head_eq {K : ℕ} (l V V' : Fin K → EReal) (s : EReal) (hs : Fin' s)
    (hl : ∀ k, l k = ⊥ ∨ (Fin' (l k) ∧ V' k = V k)) :
    ∑ k, V' k * Ideal.div (Ideal.exp (l k - top l s)) (den l s) = head l V s := by
  obtain ⟨M, hM⟩ := top_fin l s hs fun k => by
    rcases hl k with h | h
    · rw [h]; exact bot_ne_top
    · exact h.1.ne_top
  have he : ∀ k, ∃ e : ℝ, 0 ≤ e ∧ Ideal.exp (l k - top l s) = e ∧ (l k = ⊥ → e = 0) := fun k => by
    rw [hM]
    rcases hl k with h | ⟨⟨r, h⟩, _⟩
    · exact ⟨0, le_refl _, by rw [h, EReal.bot_sub]; rfl, fun _ => rfl⟩
    · exact ⟨Real.exp (r - M), (Real.exp_pos _).le, by rw [h, ← EReal.coe_sub]; rfl, fun h' => absurd h' (h ▸ EReal.coe_ne_bot r)⟩
  choose e he0 he1 he2 using he
  obtain ⟨σ, rfl⟩ := hs
  have hd : den l (σ : EReal) = ((∑ k, e k + Real.exp (σ - M) : ℝ) : EReal) := by
    unfold den
    simp only [he1]
    rw [hM, ← EReal.coe_sub, EReal.coe_add]
    congr 1
    exact (map_sum (⟨⟨Real.toEReal, EReal.coe_zero⟩, EReal.coe_add⟩ : ℝ →+ EReal) e Finset.univ).symm
  have hpos : 0 < ∑ k, e k + Real.exp (σ - M) := add_pos_of_nonneg_of_pos (Finset.sum_nonneg fun k _ => he0 k) (Real.exp_pos _)
  unfold head
  rw [hd, Ideal.div_coe hpos.ne', sum_mul_coe _ _ (one_div_nonneg.2 hpos.le)]
  refine Finset.sum_congr rfl fun k _ => ?_
  rw [Ideal.div_coe hpos.ne', he1]
  rcases hl k with h | ⟨_, h⟩
  · rw [he2 k h]; simp
  · rw [h, ← mul_assoc, mul_comm (V k)]

/-- The running sum to `p` less the running sum to `p - w` is the sum of the last `w`, for finite terms. -/
theorem window_sub {N : ℕ} (z : Fin N → EReal) (hz : ∀ i, Fin' (z i)) (p : Fin N) (w : ℕ) :
    (∑ k : Fin N, if k.val ≤ p.val then z k else 0) - (∑ k : Fin N, if k.val + w ≤ p.val then z k else 0)
      = ∑ i : Fin w, if h : i.val ≤ p.val then z ⟨p.val - i.val, by omega⟩ else 0 := by
  choose ζ hζ using hz
  have hc : ∀ {n : ℕ} (f : Fin n → ℝ), ((∑ i, f i : ℝ) : EReal) = ∑ i, (f i : EReal) := fun f =>
    map_sum (⟨⟨Real.toEReal, EReal.coe_zero⟩, EReal.coe_add⟩ : ℝ →+ EReal) f Finset.univ
  have h1 : ∀ q : Fin N → Prop, ∀ [DecidablePred q], (∑ k : Fin N, if q k then z k else 0) = ((∑ k : Fin N, if q k then ζ k else 0 : ℝ) : EReal) := by
    intro q _
    rw [hc]
    refine Finset.sum_congr rfl fun k _ => ?_
    split <;> simp [hζ]
  rw [h1, h1, ← EReal.coe_sub]
  have h3 : (∑ i : Fin w, if h : i.val ≤ p.val then z ⟨p.val - i.val, by omega⟩ else 0)
      = ((∑ i : Fin w, if h : i.val ≤ p.val then ζ ⟨p.val - i.val, by omega⟩ else 0 : ℝ) : EReal) := by
    rw [hc]
    refine Finset.sum_congr rfl fun k _ => ?_
    split <;> simp [hζ]
  rw [h3]
  congr 1
  rw [← Finset.sum_sub_distrib]
  have h4 : ∀ k : Fin N, ((if k.val ≤ p.val then ζ k else 0) - (if k.val + w ≤ p.val then ζ k else 0))
      = if k.val ≤ p.val ∧ p.val < k.val + w then ζ k else 0 := fun k => by
    split_ifs <;> first | omega | simp
  simp only [h4]
  rw [← Finset.sum_filter]
  have h5 : (∑ i : Fin w, if h : i.val ≤ p.val then ζ ⟨p.val - i.val, by omega⟩ else 0)
      = ∑ i ∈ Finset.univ.filter (fun i : Fin w => i.val ≤ p.val), if h : i.val ≤ p.val then ζ ⟨p.val - i.val, by omega⟩ else 0 := by
    rw [Finset.sum_filter]
    refine Finset.sum_congr rfl fun i _ => ?_
    split <;> rfl
  rw [h5]
  refine Finset.sum_bij' (fun k hk => (⟨p.val - k.val, by have := (Finset.mem_filter.1 hk).2; omega⟩ : Fin w))
    (fun i hi => (⟨p.val - i.val, by omega⟩ : Fin N)) ?_ ?_ ?_ ?_ ?_
  · intro k hk; have := (Finset.mem_filter.1 hk).2; simp
  · intro i hi; have := (Finset.mem_filter.1 hi).2; refine Finset.mem_filter.2 ⟨Finset.mem_univ _, ?_, ?_⟩ <;> dsimp only <;> omega
  · intro k hk; have := (Finset.mem_filter.1 hk).2; ext; dsimp only; omega
  · intro i hi; have := (Finset.mem_filter.1 hi).2; ext; dsimp only; omega
  · intro k hk
    have := (Finset.mem_filter.1 hk).2
    rw [dif_pos (by simp)]
    congr 1
    ext; simp; omega

/-- Doubling a window: a tile whose row `j` holds the sum of the last `w` rows, added to itself `w` rows earlier. -/
theorem window_double (e : ℕ → EReal) (w j : ℕ) (h : 2 * w ≤ j + 1) :
    (∑ i : Fin w, e (j - i)) + (∑ i : Fin w, e (j - w - i)) = ∑ i : Fin (2 * w), e (j - i) := by
  rw [Finset.sum_fin_eq_sum_range, Finset.sum_fin_eq_sum_range, Finset.sum_fin_eq_sum_range,
    show 2 * w = w + w from by omega, Finset.sum_range_add]
  congr 1
  · refine Finset.sum_congr rfl fun i hi => ?_
    have := Finset.mem_range.1 hi
    rw [dif_pos this, dif_pos (by omega)]
  · refine Finset.sum_congr rfl fun i hi => ?_
    have := Finset.mem_range.1 hi
    rw [dif_pos this, dif_pos (by omega)]
    congr 1; dsimp only; omega

end Cert.Mix

end
-- ==== Proof.Mix.Spec.lean ====
/- What the mixer computes, entry by entry, over plain functions of the coordinates: both programs are compared with
   this. `b` is the batch entry, `n` the block of 128 rows, `r` the row in the block. -/
module

public import proofs.«01_k».proof.Proof.Mix.Rows
public import Idealize.ShloMosaic.Lib.Pointwise

@[expose] public section

noncomputable section

namespace Cert.Mix

open Idealize.ShloMosaic
open scoped BigOperators

/-- The arguments read at their coordinates; `bias` is the attention bias by head, query row and key row. -/
structure Inp where
  x : Fin 32768 → Fin 1024 → EReal
  q : Fin 32768 → Fin 512 → EReal
  kv : Fin 32768 → Fin 256 → EReal
  pz : Fin 32768 → Fin 512 → EReal
  guv : Fin 32768 → Fin 1024 → EReal
  g : Fin 32768 → Fin 3072 → EReal
  bias : Fin 8 → Fin 128 → Fin 256 → EReal
  sink : Fin 8 → EReal
  wp : Fin 4 → Fin 128 → Fin 128 → EReal
  ps : Fin 512 → EReal
  vg : Fin 512 → EReal
  ws : Fin 4 → Fin 128 → Fin 128 → EReal
  bs : Fin 4 → Fin 128 → EReal
  wa : Fin 512 → Fin 1024 → EReal
  wb : Fin 512 → Fin 1024 → EReal
  wc : Fin 512 → Fin 1024 → EReal
  wo : Fin 1024 → Fin 1024 → EReal
  bg : Fin 3072 → EReal

def row (b : Fin 2) (n r : Fin 128) : Fin 32768 := ⟨(b.val * 128 + n.val) * 128 + r.val, by omega⟩

/-- Where key row `s` of block `n` lies: the first 128 are the block before (the first block's are its own). -/
def krow (b : Fin 2) (n : Fin 128) (s : Fin 256) : Fin 32768 :=
  if s.val < 128 then ⟨(b.val * 128 + (n.val - 1)) * 128 + s.val, by omega⟩
  else ⟨(b.val * 128 + n.val) * 128 + (s.val - 128), by omega⟩

/-- Whether query row `r` of block `n` sees key row `s`. -/
def visBit (n r : Fin 128) (s : Fin 256) : BitVec 1 :=
  IntOp.andi
    (IntOp.andi
      (IntOp.cmpi .sge (IntOp.subi (IntOp.addi (BitVec.ofNat 32 r.val) 128#32) (BitVec.ofNat 32 s.val)) 0#32)
      (IntOp.cmpi .slt (IntOp.subi (IntOp.addi (BitVec.ofNat 32 r.val) 128#32) (BitVec.ofNat 32 s.val)) 128#32))
    (IntOp.xori
      (IntOp.andi (IntOp.cmpi .eq (BitVec.ofNat 32 n.val) 0#32) (IntOp.cmpi .slt (BitVec.ofNat 32 s.val) 128#32)) 1#1)

/-- One row of logits: scaled products plus bias where the key is seen, `⊥` elsewhere. -/
def logit (qv : Fin 64 → EReal) (kk : Fin 256 → Fin 64 → EReal) (vis : Fin 256 → BitVec 1) (b : Fin 256 → EReal) :
    Fin 256 → EReal := fun s =>
  Scalar.select (vis s) ((∑ x, qv x * kk s x) * Ideal.ofBits .f32 0x3E000000#32 + b s) ⊥

/-- The tanh form of the gelu, times its argument. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- One row's entry under the root-mean-square norm with a gain. -/
def rms (v : Fin 512 → EReal) (gain : Fin 512 → EReal) (c : Fin 512) : EReal :=
  v c * Ideal.rsqrt (Ideal.div (∑ k, v k * v k) (Ideal.ofBits .f32 0x44000000#32) + Ideal.ofBits .f32 0x358637BD#32) * gain c

namespace Inp
variable (I : Inp) (b : Fin 2) (n r : Fin 128)

def attn (c : Fin 512) : EReal :=
  head (logit (fun x => I.q (row b n r) ⟨c.val / 64 * 64 + x.val, by omega⟩)
      (fun s x => I.kv (krow b n s) ⟨c.val / 256 * 64 + x.val, by omega⟩) (visBit n r)
      (I.bias ⟨c.val / 64, by omega⟩ r))
    (fun s => I.kv (krow b n s) ⟨128 + (c.val / 256 * 64 + c.val % 64), by omega⟩) (I.sink ⟨c.val / 64, by omega⟩)

/-- The pool input `i` rows back, zero before the sequence begins. -/
def back (c : Fin 512) (i : ℕ) : EReal :=
  if n.val * 128 + r.val < i then 0 else I.pz ⟨(b.val * 128 + n.val) * 128 + r.val - i, by omega⟩ c

/-- The mean of the last `w` rows less the row itself. -/
def poolD (w : ℕ) (c : Fin 512) : EReal :=
  Ideal.div (∑ i : Fin w, I.back b n r c i.val) (((min (n.val * 128 + r.val + 1) w : ℕ) : ℝ) : EReal) - I.pz (row b n r) c

def pool (c : Fin 512) : EReal :=
  (∑ k : Fin 128, I.poolD b n r (2 ^ (c.val / 128 + 1)) ⟨c.val / 128 * 128 + k.val, by omega⟩
    * I.wp ⟨c.val / 128, by omega⟩ k ⟨c.val % 128, by omega⟩) * I.ps c

def vrow (c : Fin 512) : EReal :=
  rms (fun k => gelu (I.guv (row b n r) ⟨512 + k.val, by omega⟩)) I.vg c

def mlp (c : Fin 512) : EReal :=
  gelu (I.guv (row b n r) ⟨c.val, by omega⟩) *
    ((∑ s : Fin 128, (if s.val ≤ r.val then I.ws ⟨c.val / 128, by omega⟩ r s else 0) * I.vrow b n s c)
      + I.bs ⟨c.val / 128, by omega⟩ r)

def gate (i : Fin 3) (e : Fin 1024) : EReal :=
  Ideal.logistic (I.g (row b n r) ⟨i.val * 1024 + e.val, by omega⟩ + I.bg ⟨i.val * 1024 + e.val, by omega⟩)

def merged (e : Fin 1024) : EReal :=
  I.gate b n r 0 e * (∑ c, I.attn b n r c * I.wa c e) + I.gate b n r 1 e * (∑ c, I.pool b n r c * I.wb c e)
    + I.gate b n r 2 e * (∑ c, I.mlp b n r c * I.wc c e)

def out (e : Fin 1024) : EReal := I.x (row b n r) e + ∑ j, I.merged b n r j * I.wo j e

end Inp

end Cert.Mix

end
-- ==== Proof.Mix.Tile.lean ====
/- The attention tile of the mixer body: what it holds at an index, one row of each head at a time. -/
module

public import proofs.«01_k».proof.Proof.Gen.KernelIdeal.Skeleton
public import proofs.«01_k».proof.Proof.Mix.Spec
public import Idealize.ShloMosaic.PureOps.IdealRules

@[expose] public section

set_option maxRecDepth 16384

noncomputable section

namespace Cert.KernelIdeal.Mix

open Idealize.ShloMosaic Idealize.ShloMosaic.TcCoe Idealize.SL.Sem
open Cert.KernelIdeal Cert.KernelIdeal.Gen
open Cert.Mix (visBit logit head top den)

/-- One head's logits: scaled products plus bias where the key is visible, the mask elsewhere. -/
def logitsT (qh : FVec Ideal S128x64 .bf16) (kh : FVec Ideal S256x64 .bf16) (vis : IVec S128x256 1)
    (b : FVec Ideal S1x128x256 .f32) : FVec Ideal S128x256 .f32 :=
  select vis
    (addf (mulf (matmul dot_S128x64_S256x64_S128x256_1_1_0_0_n_n none qh kh (constant S128x256 .f32 0x00000000#32))
      (broadcast S128x256 (Scalar.ofBits .f32 0x3E000000#32))) (shapeCast S128x256 b shapeCasts_S1x128x256_S128x256))
    (broadcast S128x256 (Named.named κ "mask" 0xF149F2CA#32))

/-- One head of the body. -/
def headT (qh : FVec Ideal S128x64 .bf16) (kh vh : FVec Ideal S256x64 .bf16) (vis : IVec S128x256 1)
    (b : FVec Ideal S1x128x256 .f32) (s : Ideal .f32) : FVec Ideal S128x64 .f32 :=
  k0_pay7 vh (logitsT qh kh vis b) s

theorem mask_bot : (Named.named κ "mask" 0xF149F2CA#32 : Ideal .f32) = (⊥ : EReal) :=
  IdealRules.named_const.ideal_named_scalar _ _ _ _ rfl

theorem neg_inf : Ideal.ofBits .f32 0xFF800000#32 = (⊥ : EReal) := by
  simp [Ideal.ofBits, Ideal.ieee]

theorem logitsT_at (qh : FVec Ideal S128x64 .bf16) (kh : FVec Ideal S256x64 .bf16) (vis : IVec S128x256 1)
    (b : FVec Ideal S1x128x256 .f32) (r : Fin 128) (s : Fin 256) :
    logitsT qh kh vis b (ix2 r s) = logit (fun x => qh (ix2 r x)) (fun s x => kh (ix2 s x)) (fun s => vis (ix2 r s))
      (fun s => b (ix3 0 r s)) s := by
  pointwise [logitsT, logit]
  rw [mask_bot]

theorem headT_at (qh : FVec Ideal S128x64 .bf16) (kh vh : FVec Ideal S256x64 .bf16) (vis : IVec S128x256 1)
    (b : FVec Ideal S1x128x256 .f32) (s : Ideal .f32) (r : Fin 128) (d : Fin 64) :
    headT qh kh vh vis b s (ix2 r d) = head (logit (fun x => qh (ix2 r x)) (fun s x => kh (ix2 s x))
      (fun s => vis (ix2 r s)) (fun s => b (ix3 0 r s))) (fun s => vh (ix2 s d)) s := by
  pointwise [headT, k0_pay7]
  simp only [logitsT_at, neg_inf]
  rfl

theorem vis_at (i : grid0.Coords) (n : Fin 128) (hn : (i 1).val = n.val) (r : Fin 128) (s : Fin 256) :
    k0_pay4 i (ix2 r s) = visBit n r s := by
  pointwise [k0_pay4, visBit]
  rw [hn]
  rfl

/-- A key or value row of the stacked blocks, the previous block's first. -/
def stacked (x3 x4 : FVec Ideal S128x256 .bf16) (s : Fin 256) (c : Fin 256) : EReal :=
  if h : s.val < 128 then x4 (ix2 ⟨s.val, h⟩ c) else x3 (ix2 ⟨s.val - 128, by omega⟩ c)

theorem pay2_at (x3 x4 : FVec Ideal S128x256 .bf16) (s : Fin 256) (c : Fin 128) :
    k0_pay2 (F := Ideal) x3 x4 (ix2 s c) = stacked x3 x4 s ⟨c.val, by omega⟩ := by
  pointwise [k0_pay2, stacked]

theorem pay3_at (x3 x4 : FVec Ideal S128x256 .bf16) (s : Fin 256) (c : Fin 128) :
    k0_pay3 (F := Ideal) x3 x4 (ix2 s c) = stacked x3 x4 s ⟨128 + c.val, by omega⟩ := by
  pointwise [k0_pay3, stacked]

theorem head0_eq (i : grid0.Coords) (x2 : FVec Ideal S128x512 .bf16) (x3 x4 : FVec Ideal S128x256 .bf16) (b : FVec Ideal S1x128x256 .f32) (s : Ideal .f32) :
    (k0_pay7 (F := Ideal) (k0_pay5 (F := Ideal) x3 x4) (k0_pay6 (F := Ideal) i x3 x4 x2 b) s) = headT (extractStridedSlice S128x64 ![0, 0] x2 slices_S128x512_o0_0_S128x64) (extractStridedSlice S256x64 ![0, 0] (k0_pay2 (F := Ideal) x3 x4) slices_S256x128_o0_0_S256x64) (extractStridedSlice S256x64 ![0, 0] (k0_pay3 (F := Ideal) x3 x4) slices_S256x128_o0_0_S256x64) (k0_pay4 i) b s := rfl

theorem head1_eq (x2 : FVec Ideal S128x512 .bf16) (K V : FVec Ideal S256x128 .bf16) (M : IVec S128x256 1) (b : FVec Ideal S1x128x256 .f32) (s : Ideal .f32) :
    (k0_pay8 (F := Ideal) K V M x2 b s) = headT (extractStridedSlice S128x64 ![0, 64] x2 slices_S128x512_o0_64_S128x64) (extractStridedSlice S256x64 ![0, 0] K slices_S256x128_o0_0_S256x64) (extractStridedSlice S256x64 ![0, 0] V slices_S256x128_o0_0_S256x64) M b s := rfl

theorem head2_eq (x2 : FVec Ideal S128x512 .bf16) (K V : FVec Ideal S256x128 .bf16) (M : IVec S128x256 1) (b : FVec Ideal S1x128x256 .f32) (s : Ideal .f32) :
    (k0_pay11 (F := Ideal) V M (k0_pay9 (F := Ideal) x2) (k0_pay10 (F := Ideal) K) b s) = headT (extractStridedSlice S128x64 ![0, 128] x2 slices_S128x512_o0_128_S128x64) (extractStridedSlice S256x64 ![0, 0] K slices_S256x128_o0_0_S256x64) (extractStridedSlice S256x64 ![0, 0] V slices_S256x128_o0_0_S256x64) M b s := rfl

theorem head3_eq (x2 : FVec Ideal S128x512 .bf16) (K V : FVec Ideal S256x128 .bf16) (M : IVec S128x256 1) (b : FVec Ideal S1x128x256 .f32) (s : Ideal .f32) :
    (k0_pay16 (F := Ideal) (k0_pay12 (F := Ideal) V) (k0_pay13 (F := Ideal) K M x2 b) s (k0_pay14 (F := Ideal) K M x2 b) (k0_pay15 (F := Ideal) s)) = headT (extractStridedSlice S128x64 ![0, 192] x2 slices_S128x512_o0_192_S128x64) (extractStridedSlice S256x64 ![0, 0] K slices_S256x128_o0_0_S256x64) (extractStridedSlice S256x64 ![0, 0] V slices_S256x128_o0_0_S256x64) M b s := rfl

theorem head4_eq (x2 : FVec Ideal S128x512 .bf16) (K V : FVec Ideal S256x128 .bf16) (M : IVec S128x256 1) (b : FVec Ideal S1x128x256 .f32) (s : Ideal .f32) :
    (k0_pay17 (F := Ideal) K V M x2 b s) = headT (extractStridedSlice S128x64 ![0, 256] x2 slices_S128x512_o0_256_S128x64) (extractStridedSlice S256x64 ![0, 64] K slices_S256x128_o0_64_S256x64) (extractStridedSlice S256x64 ![0, 64] V slices_S256x128_o0_64_S256x64) M b s := rfl

theorem head5_eq (x2 : FVec Ideal S128x512 .bf16) (K V : FVec Ideal S256x128 .bf16) (M : IVec S128x256 1) (b : FVec Ideal S1x128x256 .f32) (s : Ideal .f32) :
    (k0_pay20 (F := Ideal) M (k0_pay18 (F := Ideal) V) (k0_pay19 (F := Ideal) K x2) b s) = headT (extractStridedSlice S128x64 ![0, 320] x2 slices_S128x512_o0_320_S128x64) (extractStridedSlice S256x64 ![0, 64] K slices_S256x128_o0_64_S256x64) (extractStridedSlice S256x64 ![0, 64] V slices_S256x128_o0_64_S256x64) M b s := rfl

theorem heads_eq (x2 : FVec Ideal S128x512 .bf16) (K V : FVec Ideal S256x128 .bf16) (M : IVec S128x256 1) (h0 h1 h2 h3 h4 h5 : FVec Ideal S128x64 .f32)
    (b b' : FVec Ideal S1x128x256 .f32) (s s' : Ideal .f32) (x15 : FVec Ideal S512x1024 .bf16) :
    k0_pay25 (F := Ideal) K V M x2 h0 h1 h2 h3 h4 h5 (k0_pay21 (F := Ideal) V) s (k0_pay23 (F := Ideal) K M x2 b s) (k0_pay24 (F := Ideal) K M x2 b s) b' s' x15
      = matmul dot_S128x512_S512x1024_S128x1024_1_0_0_1_n_n none (truncf .bf16 (concatenate S128x512 1 [⟨S128x64, h0⟩, ⟨S128x64, h1⟩, ⟨S128x64, h2⟩, ⟨S128x64, h3⟩, ⟨S128x64, h4⟩, ⟨S128x64, h5⟩, ⟨S128x64, headT (extractStridedSlice S128x64 ![0, 384] x2 slices_S128x512_o0_384_S128x64) (extractStridedSlice S256x64 ![0, 64] K slices_S256x128_o0_64_S256x64) (extractStridedSlice S256x64 ![0, 64] V slices_S256x128_o0_64_S256x64) M b s⟩, ⟨S128x64, headT (extractStridedSlice S128x64 ![0, 448] x2 slices_S128x512_o0_448_S128x64) (extractStridedSlice S256x64 ![0, 64] K slices_S256x128_o0_64_S256x64) (extractStridedSlice S256x64 ![0, 64] V slices_S256x128_o0_64_S256x64) M b' s'⟩] concatenates_S128x64_S128x64_S128x64_S128x64_S128x64_S128x64_S128x64_S128x64_S128x512_d1) bitsLt_bf16_f32) (shapeCast S512x1024 x15 shapeCasts_S512x1024_S512x1024) (constant S128x1024 .f32 0x00000000#32) := rfl

theorem head_branch (i : grid0.Coords) (x2 : FVec Ideal S128x512 .bf16) (x3 x4 : FVec Ideal S128x256 .bf16)
    (b : Fin 8 → FVec Ideal S1x128x256 .f32) (s : Fin 8 → Ideal .f32)
    (n : Fin 128) (hn : (i 1).val = n.val) (r : Fin 128) (c : Fin 512) (h : Fin 8) (d : Fin 64)
    (hc : c.val = h.val * 64 + d.val)
    (qh : FVec Ideal S128x64 .bf16) (kh vh : FVec Ideal S256x64 .bf16)
    (hq : ∀ x : Fin 64, qh (ix2 r x) = x2 (ix2 r ⟨h.val * 64 + x.val, by omega⟩))
    (hk : ∀ (s : Fin 256) (x : Fin 64), kh (ix2 s x) = k0_pay2 (F := Ideal) x3 x4 (ix2 s ⟨h.val / 4 * 64 + x.val, by omega⟩))
    (hv : ∀ (s : Fin 256) (x : Fin 64), vh (ix2 s x) = k0_pay3 (F := Ideal) x3 x4 (ix2 s ⟨h.val / 4 * 64 + x.val, by omega⟩)) :
    headT qh kh vh (k0_pay4 i) (b h) (s h) (ix2 r d)
      = head (logit (fun x => x2 (ix2 r ⟨c.val / 64 * 64 + x.val, by omega⟩))
          (fun s x => stacked x3 x4 s ⟨c.val / 256 * 64 + x.val, by omega⟩) (visBit n r)
          (fun s => b ⟨c.val / 64, by omega⟩ (ix3 0 r s)))
        (fun s => stacked x3 x4 s ⟨128 + (c.val / 256 * 64 + c.val % 64), by omega⟩) (s ⟨c.val / 64, by omega⟩) := by
  rw [headT_at]
  obtain ⟨c, hc'⟩ := c
  dsimp only at hc
  subst hc
  have e1 : (⟨(h.val * 64 + d.val) / 64, by omega⟩ : Fin 8) = h := Fin.ext (by dsimp only; omega)
  have e2 : (h.val * 64 + d.val) / 64 = h.val := by omega
  have e3 : (h.val * 64 + d.val) / 256 = h.val / 4 := by omega
  have e4 : (h.val * 64 + d.val) % 64 = d.val := by omega
  simp only [e1, e2, e3, e4, hq, hk, hv, pay2_at, pay3_at, vis_at i n hn]

set_option maxHeartbeats 2000000 in
theorem attn_at (i : grid0.Coords) (x2 : FVec Ideal S128x512 .bf16) (x3 x4 : FVec Ideal S128x256 .bf16)
    (b : Fin 8 → FVec Ideal S1x128x256 .f32) (s : Fin 8 → Ideal .f32) (x15 : FVec Ideal S512x1024 .bf16)
    (n : Fin 128) (hn : (i 1).val = n.val) (r : Fin 128) (e : Fin 1024) :
    k0_pay25 (F := Ideal) (k0_pay2 (F := Ideal) x3 x4) (k0_pay3 (F := Ideal) x3 x4) (k0_pay4 i) x2
        (k0_pay7 (F := Ideal) (k0_pay5 (F := Ideal) x3 x4) (k0_pay6 (F := Ideal) i x3 x4 x2 (b 0)) (s 0))
        (k0_pay8 (F := Ideal) (k0_pay2 (F := Ideal) x3 x4) (k0_pay3 (F := Ideal) x3 x4) (k0_pay4 i) x2 (b 1) (s 1))
        (k0_pay11 (F := Ideal) (k0_pay3 (F := Ideal) x3 x4) (k0_pay4 i) (k0_pay9 (F := Ideal) x2) (k0_pay10 (F := Ideal) (k0_pay2 (F := Ideal) x3 x4)) (b 2) (s 2))
        (k0_pay16 (F := Ideal) (k0_pay12 (F := Ideal) (k0_pay3 (F := Ideal) x3 x4)) (k0_pay13 (F := Ideal) (k0_pay2 (F := Ideal) x3 x4) (k0_pay4 i) x2 (b 3)) (s 3) (k0_pay14 (F := Ideal) (k0_pay2 (F := Ideal) x3 x4) (k0_pay4 i) x2 (b 3)) (k0_pay15 (F := Ideal) (s 3)))
        (k0_pay17 (F := Ideal) (k0_pay2 (F := Ideal) x3 x4) (k0_pay3 (F := Ideal) x3 x4) (k0_pay4 i) x2 (b 4) (s 4))
        (k0_pay20 (F := Ideal) (k0_pay4 i) (k0_pay18 (F := Ideal) (k0_pay3 (F := Ideal) x3 x4)) (k0_pay19 (F := Ideal) (k0_pay2 (F := Ideal) x3 x4) x2) (b 5) (s 5))
        (k0_pay21 (F := Ideal) (k0_pay3 (F := Ideal) x3 x4)) (s 6) (k0_pay23 (F := Ideal) (k0_pay2 (F := Ideal) x3 x4) (k0_pay4 i) x2 (b 6) (s 6)) (k0_pay24 (F := Ideal) (k0_pay2 (F := Ideal) x3 x4) (k0_pay4 i) x2 (b 6) (s 6)) (b 7) (s 7) x15 (ix2 r e)
      = ∑ c : Fin 512, head (logit (fun x => x2 (ix2 r ⟨c.val / 64 * 64 + x.val, by omega⟩))
          (fun s x => stacked x3 x4 s ⟨c.val / 256 * 64 + x.val, by omega⟩) (visBit n r)
          (fun s => b ⟨c.val / 64, by omega⟩ (ix3 0 r s)))
        (fun s => stacked x3 x4 s ⟨128 + (c.val / 256 * 64 + c.val % 64), by omega⟩) (s ⟨c.val / 64, by omega⟩)
        * x15 (ix2 c e) := by
  rw [head0_eq, head1_eq, head2_eq, head3_eq, head4_eq, head5_eq, heads_eq]
  pointwise
  refine Finset.sum_congr rfl fun c _ => congrArg (· * x15 (ix2 c e)) ?_
  simp only [Nat.sub_sub, Nat.reduceAdd]
  by_cases h0 : c.val < 64
  · rw [dif_pos h0]
    exact head_branch i x2 x3 x4 b s n hn r c 0 ⟨c.val - 0, by omega⟩ (by dsimp only; show c.val = 0 * 64 + (c.val - 0); omega) _ _ _ (by intro x; pointwise) (by intro s x; pointwise) (by intro s x; pointwise)
  rw [dif_neg h0]
  by_cases h1 : c.val - 64 < 64
  · rw [dif_pos h1]
    exact head_branch i x2 x3 x4 b s n hn r c 1 ⟨c.val - 64, by omega⟩ (by dsimp only; show c.val = 1 * 64 + (c.val - 64); omega) _ _ _ (by intro x; pointwise) (by intro s x; pointwise) (by intro s x; pointwise)
  rw [dif_neg h1]
  by_cases h2 : c.val - 128 < 64
  · rw [dif_pos h2]
    exact head_branch i x2 x3 x4 b s n hn r c 2 ⟨c.val - 128, by omega⟩ (by dsimp only; show c.val = 2 * 64 + (c.val - 128); omega) _ _ _ (by intro x; pointwise) (by intro s x; pointwise) (by intro s x; pointwise)
  rw [dif_neg h2]
  by_cases h3 : c.val - 192 < 64
  · rw [dif_pos h3]
    exact head_branch i x2 x3 x4 b s n hn r c 3 ⟨c.val - 192, by omega⟩ (by dsimp only; show c.val = 3 * 64 + (c.val - 192); omega) _ _ _ (by intro x; pointwise) (by intro s x; pointwise) (by intro s x; pointwise)
  rw [dif_neg h3]
  by_cases h4 : c.val - 256 < 64
  · rw [dif_pos h4]
    exact head_branch i x2 x3 x4 b s n hn r c 4 ⟨c.val - 256, by omega⟩ (by dsimp only; show c.val = 4 * 64 + (c.val - 256); omega) _ _ _ (by intro x; pointwise) (by intro s x; pointwise) (by intro s x; pointwise)
  rw [dif_neg h4]
  by_cases h5 : c.val - 320 < 64
  · rw [dif_pos h5]
    exact head_branch i x2 x3 x4 b s n hn r c 5 ⟨c.val - 320, by omega⟩ (by dsimp only; show c.val = 5 * 64 + (c.val - 320); omega) _ _ _ (by intro x; pointwise) (by intro s x; pointwise) (by intro s x; pointwise)
  rw [dif_neg h5]
  by_cases h6 : c.val - 384 < 64
  · rw [dif_pos h6]
    exact head_branch i x2 x3 x4 b s n hn r c 6 ⟨c.val - 384, by omega⟩ (by dsimp only; show c.val = 6 * 64 + (c.val - 384); omega) _ _ _ (by intro x; pointwise) (by intro s x; pointwise) (by intro s x; pointwise)
  rw [dif_neg h6]
  exact head_branch i x2 x3 x4 b s n hn r c 7 ⟨c.val - 448, by omega⟩ (by dsimp only; show c.val = 7 * 64 + (c.val - 448); omega) _ _ _ (by intro x; pointwise) (by intro s x; pointwise) (by intro s x; pointwise)

end Cert.KernelIdeal.Mix

end
-- ==== Proof.Mix.Pool.lean ====
/- The pool and gated branches of the mixer body: what their tiles hold at an index. -/
module

public import proofs.«01_k».proof.Proof.Mix.Tile

@[expose] public section

set_option maxRecDepth 16384

noncomputable section

namespace Cert.KernelIdeal.Mix

open Idealize.ShloMosaic Idealize.ShloMosaic.TcCoe Idealize.SL.Sem
open Cert.KernelIdeal Cert.KernelIdeal.Gen
open Cert.Mix (window_double gelu rms)

/-- A tile plus itself moved down by `w` rows. -/
def dblT (w : BitVec 32) (f : FVec Ideal S144x128 .f32) : FVec Ideal S144x128 .f32 :=
  addf f (dynamicRotate 0 w none f rotates_S144x128_d0)

theorem dblT_at (wb : BitVec 32) (w : ℕ) (hw : wb.toNat = w) (h144 : w < 144) (f : FVec Ideal S144x128 .f32) (e : ℕ → EReal)
    (y : Fin 128)
    (hf : ∀ k : Fin 144, w ≤ k.val + 1 → f (ix2 k y) = ∑ i : Fin w, e (k.val - i.val))
    (k : Fin 144) (hk : 2 * w ≤ k.val + 1) : dblT wb f (ix2 k y) = ∑ i : Fin (2 * w), e (k.val - i.val) := by
  rw [← window_double e w k.val hk, ← hf k (by omega)]
  pointwise [dblT]
  have h2 : (k.val + 144 - wb.toNat % 144) % 144 = k.val - w := by omega
  have h3 := hf ⟨k.val - w, by omega⟩ (by dsimp only; omega)
  dsimp only at h3
  rw [← h3]
  simp only [h2]

/-- The rows before the block and the block, one column, counted from the top. -/
def colE (v0 : BitVec 1) (x5 : FVec Ideal S128x512 .f32) (x6 : FVec Ideal S16x512 .f32) (c : Fin 512) (k : ℕ) : EReal :=
  if h : k < 144 then k0_pay26 (F := Ideal) v0 x5 x6 (ix2 ⟨k, h⟩ c) else 0

/-- The mean of a window less the block's own rows. -/
def tailT (f : FVec Ideal S144x128 .f32) (cnt : IVec S128x1 32) (w : BitVec 32) (own : FVec Ideal S128x128 .f32) :
    FVec Ideal S128x128 .f32 :=
  subf (divf (extractStridedSlice S128x128 ![16, 0] f slices_S144x128_o16_0_S128x128)
    (broadcastTo S128x128 (sitofp .f32 (minsi (addi cnt (broadcast S128x1 1#32)) (broadcast S128x1 w)))
      broadcasts_S128x1_S128x128)) own

/-- The number of rows a window of `w` covers at row `r` of block `n`. -/
def cntT (n r : ℕ) (w : BitVec 32) : Ideal .f32 :=
  FloatOps.sitofp .f32 (IntOp.minsi (IntOp.addi (IntOp.addi (IntOp.muli (BitVec.ofNat 32 n) 128#32) (BitVec.ofNat 32 r)) 1#32) w)

theorem cntT_eq (n r w : ℕ) (hn : n < 128) (hr : r < 128) (hw : w < 128) :
    cntT n r (BitVec.ofNat 32 w) = (((min (n * 128 + r + 1) w : ℕ) : ℝ) : EReal) := by
  unfold cntT
  have h1 : IntOp.addi (IntOp.addi (IntOp.muli (BitVec.ofNat 32 n) 128#32) (BitVec.ofNat 32 r)) 1#32
      = BitVec.ofNat 32 (n * 128 + r + 1) := by
    simp only [IntOp.addi, IntOp.muli, BitVec.ofNat_add, BitVec.ofNat_mul]
  rw [h1]
  have hi : ∀ j : ℕ, j < 2 ^ 31 → (BitVec.ofNat 32 j).toInt = (j : ℤ) := fun j hj => by
    rw [BitVec.toInt_eq_toNat_of_lt (by rw [BitVec.toNat_ofNat]; omega), BitVec.toNat_ofNat]; congr 1; omega
  have h2 : IntOp.minsi (BitVec.ofNat 32 (n * 128 + r + 1)) (BitVec.ofNat 32 w) = BitVec.ofNat 32 (min (n * 128 + r + 1) w) := by
    unfold IntOp.minsi
    rw [BitVec.slt, hi _ (by omega), hi _ (by omega)]
    by_cases h : n * 128 + r + 1 < w
    · rw [if_pos (by simpa using by exact_mod_cast h), Nat.min_eq_left h.le]
    · rw [if_neg (by simpa using by exact_mod_cast (not_lt.1 h)), Nat.min_eq_right (not_lt.1 h)]
  rw [h2]
  show (((BitVec.ofNat 32 (min (n * 128 + r + 1) w)).toInt : ℝ) : EReal) = _
  rw [hi _ (by omega), Int.cast_natCast]

theorem tailT_at (f : FVec Ideal S144x128 .f32) (n : ℕ) (w : BitVec 32) (own : FVec Ideal S128x128 .f32) (r y : Fin 128) :
    tailT f (k0_pay27 (BitVec.ofNat 32 n)) w own (ix2 r y)
      = Ideal.div (f (ix2 ⟨16 + r.val, by omega⟩ y)) (cntT n r.val w) - own (ix2 r y) := by
  pointwise [tailT, k0_pay27]
  unfold cntT Scalar.muli
  with_reducible rfl

section windows
variable (f : FVec Ideal S144x128 .f32) (e : ℕ → EReal) (y : Fin 128) (hf : ∀ k : Fin 144, f (ix2 k y) = e k.val)
include hf

theorem win2_at (k : Fin 144) (hk : 2 * 1 ≤ k.val + 1) : dblT 1#32 f (ix2 k y) = ∑ i : Fin (2 * 1), e (k.val - i.val) :=
  dblT_at 1#32 1 rfl (by omega) f e y (fun k _ => by rw [hf]; simp) k hk

theorem win4_at (k : Fin 144) (hk : 2 * 2 ≤ k.val + 1) :
    dblT 2#32 (dblT 1#32 f) (ix2 k y) = ∑ i : Fin (2 * 2), e (k.val - i.val) :=
  dblT_at 2#32 2 rfl (by omega) _ e y (fun k hk => win2_at f e y hf k hk) k hk

theorem win8_at (k : Fin 144) (hk : 2 * 4 ≤ k.val + 1) :
    dblT 4#32 (dblT 2#32 (dblT 1#32 f)) (ix2 k y) = ∑ i : Fin (2 * 4), e (k.val - i.val) :=
  dblT_at 4#32 4 rfl (by omega) _ e y (fun k hk => win4_at f e y hf k hk) k hk

theorem win16_at (k : Fin 144) (hk : 2 * 8 ≤ k.val + 1) :
    dblT 8#32 (dblT 4#32 (dblT 2#32 (dblT 1#32 f))) (ix2 k y) = ∑ i : Fin (2 * 8), e (k.val - i.val) :=
  dblT_at 8#32 8 rfl (by omega) _ e y (fun k hk => win8_at f e y hf k hk) k hk

end windows

/-- One entry of a window mean less the own row. -/
def pmean (v0 : BitVec 1) (n : ℕ) (x5 : FVec Ideal S128x512 .f32) (x6 : FVec Ideal S16x512 .f32) (r : Fin 128) (w : ℕ)
    (c : Fin 512) : EReal :=
  Ideal.div (∑ i : Fin w, colE v0 x5 x6 c (16 + r.val - i.val)) (((min (n * 128 + r.val + 1) w : ℕ) : ℝ) : EReal)
    - x5 (ix2 r c)

/-- One group of the pool branch after its projection. -/
def poolG (f : FVec Ideal S144x128 .f32) (n : ℕ) (w : BitVec 32) (own : FVec Ideal S128x128 .f32)
    (wp : FVec Ideal S1x128x128 .bf16) : FVec Ideal S128x128 .f32 :=
  matmul (φ₁ := .bf16) (φ₂ := .bf16) dot_S128x128_S128x128_S128x128_1_0_0_1_n_n none
    (truncf .bf16 (tailT f (k0_pay27 (BitVec.ofNat 32 n)) w own) bitsLt_bf16_f32)
    (shapeCast S128x128 wp shapeCasts_S1x128x128_S128x128 : FVec Ideal S128x128 .bf16) (constant S128x128 .f32 0x00000000#32)

theorem poolG_at (v0 : BitVec 1) (n : ℕ) (hn : n < 128) (x5 : FVec Ideal S128x512 .f32) (x6 : FVec Ideal S16x512 .f32)
    (f : FVec Ideal S144x128 .f32) (w : ℕ) (hw : w < 128) (own : FVec Ideal S128x128 .f32) (wp : FVec Ideal S1x128x128 .bf16)
    (off : ℕ) (hoff : off + 128 ≤ 512) (r y : Fin 128)
    (hf : ∀ k : Fin 128, f (ix2 ⟨16 + r.val, by omega⟩ k) = ∑ i : Fin w, colE v0 x5 x6 ⟨off + k.val, by omega⟩ (16 + r.val - i.val))
    (hown : ∀ k : Fin 128, own (ix2 r k) = x5 (ix2 r ⟨off + k.val, by omega⟩)) :
    poolG f n (BitVec.ofNat 32 w) own wp (ix2 r y)
      = ∑ k : Fin 128, pmean v0 n x5 x6 r w ⟨off + k.val, by omega⟩ * wp (ix3 0 k y) := by
  pointwise [poolG]
  refine Finset.sum_congr rfl fun k _ => ?_
  rw [tailT_at, hf, hown, cntT_eq n r.val w hn r.isLt hw]
  rfl

section groups
variable (v0 : BitVec 1) (n : ℕ) (x5 : FVec Ideal S128x512 .f32) (x6 : FVec Ideal S16x512 .f32)

/-- One group's columns of the rows before the block and the block. -/
def colsT (off : ℕ) (h : S144x512.Slices ![0, off] S144x128) : FVec Ideal S144x128 .f32 :=
  extractStridedSlice S144x128 ![0, off] (k0_pay26 (F := Ideal) v0 x5 x6) h

theorem pay28_eq (wp : FVec Ideal S1x128x128 .bf16) : k0_pay28 (F := Ideal) (BitVec.ofNat 32 n) v0 x5 x6 wp
    = poolG (dblT 1#32 (colsT v0 x5 x6 0 slices_S144x512_o0_0_S144x128)) n (BitVec.ofNat 32 2)
      (extractStridedSlice S128x128 ![0, 0] x5 slices_S128x512_o0_0_S128x128) wp := rfl

theorem pay30_eq (wp : FVec Ideal S1x128x128 .bf16) : k0_pay30 (F := Ideal) (k0_pay29 (BitVec.ofNat 32 n) v0 x5 x6) wp
    = poolG (dblT 2#32 (dblT 1#32 (colsT v0 x5 x6 128 slices_S144x512_o0_128_S144x128))) n (BitVec.ofNat 32 4)
      (extractStridedSlice S128x128 ![0, 128] x5 slices_S128x512_o0_128_S128x128) wp := rfl

theorem pay31_eq (wp : FVec Ideal S1x128x128 .bf16) :
    k0_pay31 (F := Ideal) x5 (k0_pay26 v0 x5 x6) (k0_pay27 (BitVec.ofNat 32 n)) wp
    = poolG (dblT 4#32 (dblT 2#32 (dblT 1#32 (colsT v0 x5 x6 256 slices_S144x512_o0_256_S144x128)))) n (BitVec.ofNat 32 8)
      (extractStridedSlice S128x128 ![0, 256] x5 slices_S128x512_o0_256_S128x128) wp := rfl

/-- The four projected groups side by side, scaled, through the branch projection. -/
def poolTail (g : Fin 4 → FVec Ideal S128x128 .f32) (x11 : FVec Ideal S1x512 .f32) (x16 : FVec Ideal S512x1024 .bf16) :
    FVec Ideal S128x1024 .f32 :=
  matmul (φ₁ := .bf16) (φ₂ := .bf16) dot_S128x512_S512x1024_S128x1024_1_0_0_1_n_n none
    (truncf .bf16 (mulf (concatenate S128x512 1 [⟨S128x128, g 0⟩, ⟨S128x128, g 1⟩, ⟨S128x128, g 2⟩, ⟨S128x128, g 3⟩]
        concatenates_S128x128_S128x128_S128x128_S128x128_S128x512_d1)
      (broadcastTo S128x512 (shapeCast S1x512 x11 shapeCasts_S1x512_S1x512) broadcasts_S1x512_S128x512)) bitsLt_bf16_f32)
    (shapeCast S512x1024 x16 shapeCasts_S512x1024_S512x1024 : FVec Ideal S512x1024 .bf16) (constant S128x1024 .f32 0x00000000#32)

theorem ladder4 (g : Fin 4 → FVec Ideal S128x128 .f32) (r : Fin 128) (c : Fin 512) :
    concatenate S128x512 1 [⟨S128x128, g 0⟩, ⟨S128x128, g 1⟩, ⟨S128x128, g 2⟩, ⟨S128x128, g 3⟩]
        concatenates_S128x128_S128x128_S128x128_S128x128_S128x512_d1 (ix2 r c)
      = g ⟨c.val / 128, by omega⟩ (ix2 r ⟨c.val % 128, by omega⟩) := by
  have key : ∀ (h : Fin 4) (d : Fin 128), c.val = h.val * 128 + d.val →
      g h (ix2 r d) = g ⟨c.val / 128, by omega⟩ (ix2 r ⟨c.val % 128, by omega⟩) := by
    intro h d e
    have e1 : (⟨c.val / 128, by omega⟩ : Fin 4) = h := Fin.ext (by dsimp only; omega)
    have e2 : (⟨c.val % 128, by omega⟩ : Fin 128) = d := Fin.ext (by dsimp only; omega)
    rw [e1, e2]
  pointwise
  simp only [Nat.sub_sub, Nat.reduceAdd]
  by_cases h0 : c.val < 128
  · rw [dif_pos h0]; exact key 0 ⟨c.val, h0⟩ (by simp)
  rw [dif_neg h0]
  by_cases h1 : c.val - 128 < 128
  · rw [dif_pos h1]; exact key 1 ⟨c.val - 128, h1⟩ (by show c.val = 1 * 128 + (c.val - 128); omega)
  rw [dif_neg h1]
  by_cases h2 : c.val - 256 < 128
  · rw [dif_pos h2]; exact key 2 ⟨c.val - 256, h2⟩ (by show c.val = 2 * 128 + (c.val - 256); omega)
  rw [dif_neg h2]
  exact key 3 ⟨c.val - 384, by omega⟩ (by show c.val = 3 * 128 + (c.val - 384); omega)

theorem poolTail_at (g : Fin 4 → FVec Ideal S128x128 .f32) (x11 : FVec Ideal S1x512 .f32) (x16 : FVec Ideal S512x1024 .bf16)
    (r : Fin 128) (e : Fin 1024) : poolTail g x11 x16 (ix2 r e)
      = ∑ c : Fin 512, g ⟨c.val / 128, by omega⟩ (ix2 r ⟨c.val % 128, by omega⟩) * x11 (ix2 0 c) * x16 (ix2 c e) := by
  pointwise [poolTail, ladder4]

/-- The four projected groups. -/
def poolGs (wp : Fin 4 → FVec Ideal S1x128x128 .bf16) : Fin 4 → FVec Ideal S128x128 .f32 :=
  ![k0_pay28 (F := Ideal) (BitVec.ofNat 32 n) v0 x5 x6 (wp 0), k0_pay30 (F := Ideal) (k0_pay29 (BitVec.ofNat 32 n) v0 x5 x6) (wp 1),
    k0_pay31 (F := Ideal) x5 (k0_pay26 v0 x5 x6) (k0_pay27 (BitVec.ofNat 32 n)) (wp 2),
    poolG (dblT 8#32 (dblT 4#32 (dblT 2#32 (dblT 1#32 (colsT v0 x5 x6 384 slices_S144x512_o0_384_S144x128))))) n (BitVec.ofNat 32 16)
      (extractStridedSlice S128x128 ![0, 384] x5 slices_S128x512_o0_384_S128x128) (wp 3)]

theorem pay34_eq (wp : Fin 4 → FVec Ideal S1x128x128 .bf16) (x11 : FVec Ideal S1x512 .f32) (x16 : FVec Ideal S512x1024 .bf16) :
    k0_pay34 (F := Ideal) (k0_pay28 (BitVec.ofNat 32 n) v0 x5 x6 (wp 0)) (k0_pay30 (k0_pay29 (BitVec.ofNat 32 n) v0 x5 x6) (wp 1))
      (k0_pay31 x5 (k0_pay26 v0 x5 x6) (k0_pay27 (BitVec.ofNat 32 n)) (wp 2))
      (k0_pay32 (k0_pay26 v0 x5 x6) (k0_pay27 (BitVec.ofNat 32 n))) (k0_pay33 x5) (wp 3) x11 x16
      = poolTail (poolGs v0 n x5 x6 wp) x11 x16 := rfl

variable (hn : n < 128)
include hn

theorem poolGs_at (wp : Fin 4 → FVec Ideal S1x128x128 .bf16) (h : Fin 4) (r y : Fin 128) :
    poolGs v0 n x5 x6 wp h (ix2 r y)
      = ∑ k : Fin 128, pmean v0 n x5 x6 r (2 ^ (h.val + 1)) ⟨h.val * 128 + k.val, by omega⟩ * wp h (ix3 0 k y) := by
  have hc : ∀ (off : ℕ) (ho : off + 128 ≤ 512) (sl) (k : Fin 144) (y : Fin 128),
      colsT v0 x5 x6 off sl (ix2 k y) = colE v0 x5 x6 ⟨off + y.val, by omega⟩ k.val := by
    intro off ho sl k y
    rw [colE, dif_pos k.isLt]
    pointwise [colsT]
  match h with
  | 0 =>
    show k0_pay28 (F := Ideal) (BitVec.ofNat 32 n) v0 x5 x6 (wp 0) (ix2 r y) = _
    rw [pay28_eq]
    exact poolG_at v0 n hn x5 x6 _ 2 (by omega) _ (wp 0) 0 (by omega) r y
      (fun k => win2_at _ _ k (fun j => hc 0 (by omega) _ j k) _ (by dsimp only; omega)) (by intro k; pointwise)
  | 1 =>
    show k0_pay30 (F := Ideal) (k0_pay29 (BitVec.ofNat 32 n) v0 x5 x6) (wp 1) (ix2 r y) = _
    rw [pay30_eq]
    exact poolG_at v0 n hn x5 x6 _ 4 (by omega) _ (wp 1) 128 (by omega) r y
      (fun k => win4_at _ _ k (fun j => hc 128 (by omega) _ j k) _ (by dsimp only; omega)) (by intro k; pointwise)
  | 2 =>
    show k0_pay31 (F := Ideal) x5 (k0_pay26 v0 x5 x6) (k0_pay27 (BitVec.ofNat 32 n)) (wp 2) (ix2 r y) = _
    rw [pay31_eq]
    exact poolG_at v0 n hn x5 x6 _ 8 (by omega) _ (wp 2) 256 (by omega) r y
      (fun k => win8_at _ _ k (fun j => hc 256 (by omega) _ j k) _ (by dsimp only; omega)) (by intro k; pointwise)
  | 3 =>
    exact poolG_at v0 n hn x5 x6 _ 16 (by omega) _ (wp 3) 384 (by omega) r y
      (fun k => win16_at _ _ k (fun j => hc 384 (by omega) _ j k) _ (by dsimp only; omega)) (by intro k; pointwise)

end groups

section mlp
variable (x7 : FVec Ideal S128x1024 .f32) (x12 : FVec Ideal S1x512 .f32) (x14 : FVec Ideal S128x4 .f32)

theorem sle_at {α : Type} (r s : Fin 128) (a b : α) :
    Scalar.select (IntOp.cmpi .sle (BitVec.ofNat 32 s.val) (BitVec.ofNat 32 r.val)) a b = if s.val ≤ r.val then a else b := by
  have hi : ∀ j : Fin 128, (BitVec.ofNat 32 j.val).toInt = (j.val : ℤ) := fun j => by
    rw [BitVec.toInt_eq_toNat_of_lt (by rw [BitVec.toNat_ofNat]; omega), BitVec.toNat_ofNat]; congr 1; omega
  unfold IntOp.cmpi
  dsimp only
  rw [BitVec.sle, hi, hi]
  by_cases h : s.val ≤ r.val
  · simp [h, Scalar.select]
  · simp [h, Scalar.select]

/-- The normed gated half. -/
theorem pay39_at (s : Fin 128) (c : Fin 512) :
    k0_pay39 (F := Ideal) (k0_pay36 x7) (k0_pay37 x7) k0_pay38 x12 (ix2 s c)
      = rms (fun k => gelu (x7 (ix2 s ⟨512 + k.val, by omega⟩))) (fun k => x12 (ix2 0 k)) c := by
  pointwise [k0_pay39, k0_pay36, k0_pay37, k0_pay38]
  rfl

theorem pay35_at (r : Fin 128) (c : Fin 512) :
    k0_pay35 (F := Ideal) x7 (ix2 r c) = gelu (x7 (ix2 r ⟨c.val, by omega⟩)) := by
  pointwise [k0_pay35]
  rfl

/-- One group of the spatial projection with its bias. -/
def spaG (v : FVec Ideal S128x512 .bf16) (off : ℕ) (ho : S128x512.Slices ![0, off] S128x128)
    (g : ℕ) (hg : S128x4.Slices ![0, g] S128x1) (sp : FVec Ideal S1x128x128 .f32) : FVec Ideal S128x128 .f32 :=
  addf (matmul (φ₁ := .bf16) (φ₂ := .bf16) dot_S128x128_S128x128_S128x128_1_0_0_1_n_n none
      (truncf .bf16 (select (cmpi .sle (iota .tc S128x128 32 [1] iota_S128x128_d1_w32) (iota .tc S128x128 32 [0] iota_S128x128_d0_w32))
        (shapeCast S128x128 sp shapeCasts_S1x128x128_S128x128) (broadcast S128x128 (Scalar.ofBits .f32 0x00000000#32))) bitsLt_bf16_f32)
      (extractStridedSlice S128x128 ![0, off] v ho) (constant S128x128 .f32 0x00000000#32))
    (broadcastTo S128x128 (extractStridedSlice S128x1 ![0, g] (k0_pay40 x14) hg) broadcasts_S128x1_S128x128)

theorem spaG_at (v : FVec Ideal S128x512 .bf16) (off : ℕ) (ho) (g : ℕ) (hg) (sp : FVec Ideal S1x128x128 .f32)
    (ho' : off + 128 ≤ 512) (hg' : g < 4) (r y : Fin 128) :
    spaG x14 v off ho g hg sp (ix2 r y)
      = (∑ s : Fin 128, (if s.val ≤ r.val then sp (ix3 0 r s) else 0) * v (ix2 s ⟨off + y.val, by omega⟩))
        + x14 (ix2 r ⟨g, hg'⟩) := by
  pointwise [spaG, k0_pay40, sle_at]

/-- The spatial projection of the four groups. -/
def spaGs (v : FVec Ideal S128x512 .bf16) (sp : Fin 4 → FVec Ideal S1x128x128 .f32) : Fin 4 → FVec Ideal S128x128 .f32 :=
  ![spaG x14 v 0 slices_S128x512_o0_0_S128x128 0 slices_S128x4_o0_0_S128x1 (sp 0),
    spaG x14 v 128 slices_S128x512_o0_128_S128x128 1 slices_S128x4_o0_1_S128x1 (sp 1),
    spaG x14 v 256 slices_S128x512_o0_256_S128x128 2 slices_S128x4_o0_2_S128x1 (sp 2),
    spaG x14 v 384 slices_S128x512_o0_384_S128x128 3 slices_S128x4_o0_3_S128x1 (sp 3)]

theorem spaGs_at (v : FVec Ideal S128x512 .bf16) (sp : Fin 4 → FVec Ideal S1x128x128 .f32) (h : Fin 4) (r y : Fin 128) :
    spaGs x14 v sp h (ix2 r y)
      = (∑ s : Fin 128, (if s.val ≤ r.val then sp h (ix3 0 r s) else 0) * v (ix2 s ⟨h.val * 128 + y.val, by omega⟩))
        + x14 (ix2 r ⟨h.val, by omega⟩) :=
  match h with
  | 0 => spaG_at x14 v 0 _ 0 _ (sp 0) (by omega) (by omega) r y
  | 1 => spaG_at x14 v 128 _ 1 _ (sp 1) (by omega) (by omega) r y
  | 2 => spaG_at x14 v 256 _ 2 _ (sp 2) (by omega) (by omega) r y
  | 3 => spaG_at x14 v 384 _ 3 _ (sp 3) (by omega) (by omega) r y

/-- The gated half through the branch projection. -/
def mlpT (u : FVec Ideal S128x512 .f32) (g : Fin 4 → FVec Ideal S128x128 .f32) (x17 : FVec Ideal S512x1024 .bf16) :
    FVec Ideal S128x1024 .f32 :=
  matmul (φ₁ := .bf16) (φ₂ := .bf16) dot_S128x512_S512x1024_S128x1024_1_0_0_1_n_n none
    (truncf .bf16 (mulf u (concatenate S128x512 1 [⟨S128x128, g 0⟩, ⟨S128x128, g 1⟩, ⟨S128x128, g 2⟩, ⟨S128x128, g 3⟩]
        concatenates_S128x128_S128x128_S128x128_S128x128_S128x512_d1)) bitsLt_bf16_f32)
    (shapeCast S512x1024 x17 shapeCasts_S512x1024_S512x1024 : FVec Ideal S512x1024 .bf16) (constant S128x1024 .f32 0x00000000#32)

theorem mlpT_at (u : FVec Ideal S128x512 .f32) (g : Fin 4 → FVec Ideal S128x128 .f32) (x17 : FVec Ideal S512x1024 .bf16)
    (r : Fin 128) (e : Fin 1024) : mlpT u g x17 (ix2 r e)
      = ∑ c : Fin 512, u (ix2 r c) * g ⟨c.val / 128, by omega⟩ (ix2 r ⟨c.val % 128, by omega⟩) * x17 (ix2 c e) := by
  pointwise [mlpT, ladder4]

/-- One branch's gate. -/
def gateT (x8 : FVec Ideal S128x3072 .f32) (x19 : FVec Ideal S1x3072 .f32) : FVec Ideal S128x3072 .f32 :=
  logistic (addf x8 (broadcastTo S128x3072 (shapeCast S1x3072 x19 shapeCasts_S1x3072_S1x3072) broadcasts_S1x3072_S128x3072))

theorem gateT_at (x8 : FVec Ideal S128x3072 .f32) (x19 : FVec Ideal S1x3072 .f32) (r : Fin 128) (e : Fin 3072) :
    gateT x8 x19 (ix2 r e) = Ideal.logistic (x8 (ix2 r e) + x19 (ix2 0 e)) := by
  pointwise [gateT]

/-- The three gated branches added up. -/
def mergeT (G : FVec Ideal S128x3072 .f32) (A B C : FVec Ideal S128x1024 .f32) : FVec Ideal S128x1024 .f32 :=
  addf (addf (mulf (extractStridedSlice S128x1024 ![0, 0] G slices_S128x3072_o0_0_S128x1024) A)
    (mulf (extractStridedSlice S128x1024 ![0, 1024] G slices_S128x3072_o0_1024_S128x1024) B))
    (mulf (extractStridedSlice S128x1024 ![0, 2048] G slices_S128x3072_o0_2048_S128x1024) C)

theorem mergeT_at (G : FVec Ideal S128x3072 .f32) (A B C : FVec Ideal S128x1024 .f32) (r : Fin 128) (e : Fin 1024) :
    mergeT G A B C (ix2 r e) = G (ix2 r ⟨0 * 1024 + e.val, by omega⟩) * A (ix2 r e)
      + G (ix2 r ⟨1 * 1024 + e.val, by omega⟩) * B (ix2 r e) + G (ix2 r ⟨2 * 1024 + e.val, by omega⟩) * C (ix2 r e) := by
  pointwise [mergeT]

theorem pay43_eq (A P : FVec Ideal S128x1024 .f32) (sp : Fin 4 → FVec Ideal S1x128x128 .f32) (x17 : FVec Ideal S512x1024 .bf16)
    (x8 : FVec Ideal S128x3072 .f32) (x19 : FVec Ideal S1x3072 .f32) :
    k0_pay43 (F := Ideal) A P (k0_pay35 x7) (k0_pay39 (k0_pay36 x7) (k0_pay37 x7) k0_pay38 x12)
      (iota .tc S128x128 32 [0] iota_S128x128_d0_w32) (iota .tc S128x128 32 [1] iota_S128x128_d1_w32) (k0_pay40 x14)
      (k0_pay41 (k0_pay36 x7) (k0_pay37 x7) k0_pay38 x12 x14 (sp 0))
      (k0_pay42 (k0_pay36 x7) (k0_pay37 x7) k0_pay38 x12 x14 (sp 1)) (sp 2) (sp 3) x17 x8 x19
      = mergeT (gateT x8 x19) A P (mlpT (k0_pay35 x7)
          (spaGs x14 (k0_pay39 (k0_pay36 x7) (k0_pay37 x7) k0_pay38 x12) sp) x17) := by
  rfl

theorem pay1_at (M x1 : FVec Ideal S128x1024 .f32) (x18 : FVec Ideal S1024x1024 .bf16) (r : Fin 128) (e : Fin 1024) :
    k0_pay1 (F := Ideal) M x1 x18 (ix2 r e) = x1 (ix2 r e) + ∑ j : Fin 1024, M (ix2 r j) * x18 (ix2 j e) := by
  pointwise [k0_pay1]

end mlp

end Cert.KernelIdeal.Mix

end
-- ==== Proof.Mix.Args.lean ====
/- The arguments as plain functions of their coordinates, and the attention bias: one entry of the bias table by the
   bucket of the distance. -/
module

public import proofs.«01_k».proof.Proof.Mix.Spec
public import Idealize.ShloMosaic.Lib.Claim

@[expose] public section

noncomputable section

namespace Cert.Mix

open Idealize.ShloMosaic
open scoped BigOperators

/-- How far key row `s` lies behind query row `r`, not below zero. -/
def dist (r : Fin 128) (s : Fin 256) : BitVec 32 :=
  IntOp.maxsi (IntOp.subi (IntOp.addi (BitVec.ofNat 32 r.val) 128#32) (BitVec.ofNat 32 s.val)) 0#32

/-- The logarithmic part of the bucket. -/
def logPart (d : BitVec 32) : Ideal .f32 :=
  Ideal.div (Ideal.log (Ideal.div (FloatOps.sitofp .f32 (IntOp.maxsi d 1#32) : Ideal .f32) (Ideal.ofBits .f32 0x41800000#32)))
    (Ideal.ofBits .f32 0x40051592#32) * Ideal.ofBits .f32 0x41800000#32

/-- The bucket of a distance. -/
def bucketOf (d : BitVec 32) : BitVec 32 :=
  Scalar.select (IntOp.cmpi .slt d 16#32) d
    (IntOp.minsi (IntOp.addi 16#32 (FloatOps.fptosi (F := Ideal) (φ := .f32) 32 (logPart d))) 31#32)

def bucket (r : Fin 128) (s : Fin 256) : BitVec 32 := bucketOf (dist r s)

theorem toInt_small {j : ℕ} (hj : j < 2 ^ 31) : (BitVec.ofNat 32 j).toInt = (j : ℤ) := by
  rw [BitVec.toInt_eq_toNat_of_lt (by rw [BitVec.toNat_ofNat]; omega), BitVec.toNat_ofNat]; congr 1; omega

theorem dist_small (r : Fin 128) (s : Fin 256) : ∃ j : ℕ, j < 256 ∧ dist r s = BitVec.ofNat 32 j := by
  unfold dist IntOp.maxsi IntOp.subi IntOp.addi
  by_cases h : s.val ≤ r.val + 128
  · have e : BitVec.ofNat 32 r.val + 128#32 - BitVec.ofNat 32 s.val = BitVec.ofNat 32 (r.val + 128 - s.val) := by
      apply BitVec.eq_of_toNat_eq
      simp only [BitVec.toNat_sub, BitVec.toNat_add, BitVec.toNat_ofNat]
      omega
    rw [e]
    split
    · exact ⟨r.val + 128 - s.val, by omega, rfl⟩
    · exact ⟨0, by omega, rfl⟩
  · have e : (BitVec.ofNat 32 r.val + 128#32 - BitVec.ofNat 32 s.val).slt 0#32 = true := by
      rw [BitVec.slt_zero_eq_msb, BitVec.msb_eq_decide]
      simp only [BitVec.toNat_sub, BitVec.toNat_add, BitVec.toNat_ofNat, decide_eq_true_eq]
      omega
    rw [if_neg (by
      simp only [BitVec.slt, decide_eq_true_eq] at e ⊢
      omega)]
    exact ⟨0, by omega, rfl⟩

theorem c16 : Ideal.ofBits .f32 0x41800000#32 = ((16 : ℝ) : EReal) := by
  simp [Ideal.ofBits, Ideal.ieee]; rw [← EReal.coe_mul]; norm_num

theorem cLog : Ideal.ofBits .f32 0x40051592#32 = ((8721810 * (1 / 4194304) : ℝ) : EReal) := by
  rw [EReal.coe_mul]
  simp [Ideal.ofBits, Ideal.ieee]
  norm_num

/-- Past the linear buckets the logarithmic part is a small count. -/
theorem logPart_small (j : ℕ) (h16 : 16 ≤ j) (hj : j < 256) : ∃ k : ℕ, k ≤ 240 ∧
    FloatOps.fptosi (F := Ideal) (φ := .f32) 32 (logPart (BitVec.ofNat 32 j)) = BitVec.ofNat 32 k := by
  have h1 : IntOp.maxsi (BitVec.ofNat 32 j) 1#32 = BitVec.ofNat 32 j := by
    unfold IntOp.maxsi
    rw [if_pos]
    rw [BitVec.slt, toInt_small (j := j) (by omega), show (1#32).toInt = 1 from by decide]
    simp only [decide_eq_true_eq]; omega
  have h2 : (FloatOps.sitofp .f32 (BitVec.ofNat 32 j) : Ideal .f32) = ((j : ℝ) : EReal) := by
    show (((BitVec.ofNat 32 j).toInt : ℝ) : EReal) = _
    rw [toInt_small (by omega), Int.cast_natCast]
  have hjr : (16 : ℝ) ≤ j := by exact_mod_cast h16
  have hjr' : (j : ℝ) < 256 := by exact_mod_cast hj
  obtain ⟨L, hL0, hL1, hL⟩ : ∃ L : ℝ, 0 ≤ L ∧ L ≤ 240 ∧ logPart (BitVec.ofNat 32 j) = (L : EReal) := by
    refine ⟨Real.log (j / 16) / (8721810 * (1 / 4194304)) * 16, ?_, ?_, ?_⟩
    · have : 0 ≤ Real.log ((j : ℝ) / 16) := Real.log_nonneg (by rw [le_div_iff₀ (by norm_num)]; linarith)
      positivity
    · have h3 : Real.log ((j : ℝ) / 16) ≤ j / 16 - 1 := Real.log_le_sub_one_of_pos (by positivity)
      have h4 : (j : ℝ) / 16 - 1 ≤ 15 := by
        rw [sub_le_iff_le_add, div_le_iff₀ (by norm_num)]; linarith
      have h5 : Real.log ((j : ℝ) / 16) / (8721810 * (1 / 4194304)) ≤ 15 := by
        rw [div_le_iff₀ (by norm_num)]; linarith
      linarith
    · unfold logPart
      rw [h1, h2, c16, cLog, Ideal.div_coe (y := 16) (by norm_num),
        ← EReal.coe_mul, Ideal.log_coe, if_neg (by have : (0 : ℝ) < j * (1 / 16) := by positivity
                                                   linarith), Ideal.div_coe (by norm_num), ← EReal.coe_mul, ← EReal.coe_mul]
      congr 2
      rw [mul_one_div, mul_one_div]
  refine ⟨⌊L⌋.toNat, ?_, ?_⟩
  · have : ⌊L⌋ ≤ 240 := by exact_mod_cast (Int.floor_le L).trans hL1
    omega
  · rw [hL]
    show BitVec.ofInt 32 (Ideal.toIntClamped _ _ (L : EReal)) = _
    have h0 : 0 ≤ ⌊L⌋ := Int.floor_nonneg.2 hL0
    have : ⌊L⌋ ≤ 240 := by exact_mod_cast (Int.floor_le L).trans hL1
    rw [Ideal.toIntClamped_coe, if_pos hL0, min_eq_right (by norm_num; omega), max_eq_right (by norm_num; omega)]
    conv_lhs => rw [← Int.toNat_of_nonneg h0]
    rfl

theorem bucketOf_small (j : ℕ) (hj : j < 256) : ∃ k : ℕ, k < 32 ∧ bucketOf (BitVec.ofNat 32 j) = BitVec.ofNat 32 k := by
  unfold bucketOf
  by_cases h : j < 16
  · refine ⟨j, by omega, ?_⟩
    have h' : (j : ℤ) < 16 := by omega
    have : IntOp.cmpi .slt (BitVec.ofNat 32 j) 16#32 = 1#1 := by
      unfold IntOp.cmpi
      dsimp only
      rw [BitVec.slt, toInt_small (j := j) (by omega), show (16#32).toInt = 16 from by decide]
      simp only [h', decide_true]; rfl
    rw [this]; rfl
  · obtain ⟨k, hk, e⟩ := logPart_small j (by omega) hj
    have h' : ¬ (j : ℤ) < 16 := by omega
    have : IntOp.cmpi .slt (BitVec.ofNat 32 j) 16#32 = 0#1 := by
      unfold IntOp.cmpi
      dsimp only
      rw [BitVec.slt, toInt_small (j := j) (by omega), show (16#32).toInt = 16 from by decide]
      simp only [h', decide_false]; rfl
    rw [this, e]
    have e2 : IntOp.addi 16#32 (BitVec.ofNat 32 k) = BitVec.ofNat 32 (16 + k) := by
      rw [IntOp.addi, BitVec.ofNat_add]
    rw [e2]
    show ∃ k_1, k_1 < 32 ∧ IntOp.minsi _ _ = _
    unfold IntOp.minsi
    split
    · rename_i h5
      rw [BitVec.slt, toInt_small (j := 16 + k) (by omega), show (31#32).toInt = 31 from by decide, decide_eq_true_eq] at h5
      exact ⟨16 + k, by omega, rfl⟩
    · exact ⟨31, by omega, rfl⟩

theorem bucket_small (r : Fin 128) (s : Fin 256) : ∃ k : Fin 32, bucket r s = BitVec.ofNat 32 k.val := by
  obtain ⟨j, hj, e⟩ := dist_small r s
  obtain ⟨k, hk, e'⟩ := bucketOf_small j hj
  exact ⟨⟨k, hk⟩, by rw [bucket, e, e']⟩

/-- The bucket as an index of the bias table. -/
def bucketIx (r : Fin 128) (s : Fin 256) : Fin 32 := (bucket_small r s).choose
theorem bucket_eq (r : Fin 128) (s : Fin 256) : bucket r s = BitVec.ofNat 32 (bucketIx r s).val := (bucket_small r s).choose_spec

/-- A one-hot product picks the entry. -/
theorem onehot_sum (f : Fin 32 → EReal) (r : Fin 128) (s : Fin 256) :
    ∑ b : Fin 32, f b * (FloatOps.uitofp .f32 (IntOp.cmpi .eq (bucket r s) (BitVec.ofNat 32 b.val)) : Ideal .f32)
      = f (bucketIx r s) := by
  rw [Finset.sum_eq_single (bucketIx r s)]
  · rw [bucket_eq]
    have : IntOp.cmpi .eq (BitVec.ofNat 32 (bucketIx r s).val) (BitVec.ofNat 32 (bucketIx r s).val) = 1#1 := by
      simp [IntOp.cmpi]
    rw [this]
    show f _ * (((1#1).toNat : ℝ) : EReal) = _
    simp
  · intro b _ hb
    have : IntOp.cmpi .eq (bucket r s) (BitVec.ofNat 32 b.val) = 0#1 := by
      rw [bucket_eq]
      have : BitVec.ofNat 32 (bucketIx r s).val ≠ BitVec.ofNat 32 b.val := by
        intro h
        have h2 := congrArg BitVec.toNat h
        simp only [BitVec.toNat_ofNat] at h2
        exact hb (Fin.ext (by omega))
      unfold IntOp.cmpi
      dsimp only
      rw [beq_false_of_ne this]
      rfl
    rw [this]
    show f _ * (((0#1).toNat : ℝ) : EReal) = _
    simp
  · intro h; exact absurd (Finset.mem_univ _) h

/-- The arguments read at their coordinates. -/
def mkInp (x : (⟨3, ![2, 16384, 1024]⟩ : Shape).Idx → EReal) (q : (⟨2, ![32768, 512]⟩ : Shape).Idx → EReal)
    (kv : (⟨2, ![32768, 256]⟩ : Shape).Idx → EReal) (pz : (⟨2, ![32768, 512]⟩ : Shape).Idx → EReal)
    (guv : (⟨2, ![32768, 1024]⟩ : Shape).Idx → EReal) (g : (⟨2, ![32768, 3072]⟩ : Shape).Idx → EReal)
    (rel : (⟨2, ![32, 8]⟩ : Shape).Idx → EReal) (sink : (⟨1, ![8]⟩ : Shape).Idx → EReal)
    (wp : (⟨3, ![4, 128, 128]⟩ : Shape).Idx → EReal) (ps : (⟨1, ![512]⟩ : Shape).Idx → EReal)
    (vg : (⟨1, ![512]⟩ : Shape).Idx → EReal) (ws : (⟨3, ![4, 128, 128]⟩ : Shape).Idx → EReal)
    (bs : (⟨2, ![4, 128]⟩ : Shape).Idx → EReal)
    (wa wb wc : (⟨2, ![512, 1024]⟩ : Shape).Idx → EReal) (wo : (⟨2, ![1024, 1024]⟩ : Shape).Idx → EReal)
    (bg : (⟨1, ![3072]⟩ : Shape).Idx → EReal) : Inp where
  x ρ e := x (ix3 ⟨ρ.val / 16384, by omega⟩ ⟨ρ.val % 16384, by omega⟩ e)
  q ρ e := q (ix2 ρ e)
  kv ρ e := kv (ix2 ρ e)
  pz ρ e := pz (ix2 ρ e)
  guv ρ e := guv (ix2 ρ e)
  g ρ e := g (ix2 ρ e)
  bias h r s := rel (ix2 (bucketIx r s) h)
  sink h := sink (ix1 h)
  wp g k y := wp (ix3 g k y)
  ps c := ps (ix1 c)
  vg c := vg (ix1 c)
  ws g r s := ws (ix3 g r s)
  bs g r := bs (ix2 g r)
  wa c e := wa (ix2 c e)
  wb c e := wb (ix2 c e)
  wc c e := wc (ix2 c e)
  wo c e := wo (ix2 c e)
  bg e := bg (ix1 e)

/-- The result array. -/
def Inp.arr (I : Inp) : (⟨2, ![32768, 1024]⟩ : Shape).Idx → EReal := fun i =>
  I.out ⟨(i 0).val / 16384, by have : (i 0).val < 32768 := (i 0).isLt; omega⟩ ⟨(i 0).val / 128 % 128, by omega⟩
    ⟨(i 0).val % 128, by omega⟩ (i 1)

end Cert.Mix

end
-- ==== Proof.Mix.Blocks.lean ====
/- The blocks the mixer body reads, as entries of the arguments. -/
module

public import proofs.«01_k».proof.Proof.Run.IdealValue
public import proofs.«01_k».proof.Proof.Mix.Pool
public import Idealize.ShloMosaic.Lib.Pipeline.ValueKit
public import proofs.«01_k».proof.Proof.Mix.Args

@[expose] public section

set_option maxRecDepth 16384

noncomputable section

namespace Cert.KernelIdeal.Mix

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Value
open Cert.Mix (row krow bucketIx)

variable (m : (ℓ : Loc nD τ sig) → Buf (Elt Ideal) ℓ) (c : Dev nD)

/-- The batch entry and the block a grid point works on. -/
def tb (t : Fin cfg0.N) : Fin 2 := ⟨t.val / 128, by have := t.isLt; have : cfg0.N = 256 := rfl; omega⟩
def tn (t : Fin cfg0.N) : Fin 128 := ⟨t.val % 128, by omega⟩

theorem coord1 : ∀ t : Fin cfg0.N, (grid0.coords t 1).val = (tn t).val :=
  (by decide +kernel : ∀ t : Fin grid0.N, (grid0.coords t 1).val = t.val % 128)

theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![(tb t).val * 128 + ((tn t).val - 1), 0] :=
  (by decide +kernel : ∀ t : Fin grid0.N, win0_4.index t = ![t.val / 128 * 128 + (t.val % 128 - 1), 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val * 8 - 1, 0] := (by decide +kernel : ∀ t : Fin grid0.N, win0_6.index t = ![t.val * 8 - 1, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx20 : ∀ t : Fin cfg0.N, win0_20.index t = ![t.val, 0] := (by decide +kernel : ∀ t : Fin grid0.N, win0_20.index t = ![t.val, 0])

theorem idx0 : ∀ t : Fin cfg0.N, win0_0.index t = ![0] := fun _ => rfl
theorem idx9 : ∀ t : Fin cfg0.N, win0_9.index t = ![0, 0, 0] := fun _ => rfl
theorem idx10 : ∀ t : Fin cfg0.N, win0_10.index t = ![0, 0, 0] := fun _ => rfl
theorem idx13 : ∀ t : Fin cfg0.N, win0_13.index t = ![0, 0, 0] := fun _ => rfl
theorem idx11 : ∀ t : Fin cfg0.N, win0_11.index t = ![0, 0] := fun _ => rfl
theorem idx12 : ∀ t : Fin cfg0.N, win0_12.index t = ![0, 0] := fun _ => rfl
theorem idx14 : ∀ t : Fin cfg0.N, win0_14.index t = ![0, 0] := fun _ => rfl
theorem idx15 : ∀ t : Fin cfg0.N, win0_15.index t = ![0, 0] := fun _ => rfl
theorem idx16 : ∀ t : Fin cfg0.N, win0_16.index t = ![0, 0] := fun _ => rfl
theorem idx17 : ∀ t : Fin cfg0.N, win0_17.index t = ![0, 0] := fun _ => rfl
theorem idx18 : ∀ t : Fin cfg0.N, win0_18.index t = ![0, 0] := fun _ => rfl
theorem idx19 : ∀ t : Fin cfg0.N, win0_19.index t = ![0, 0] := fun _ => rfl

theorem V37 : (V m c main_v37 : _) = shapeCast (s := S2x16384x1024) S32768x1024 (m (c, Proc.tc.devRef main_arg0) : FVec Ideal S2x16384x1024 .f32) shapeCasts_S2x16384x1024_S32768x1024 := by
  unfold V
  simp only [List.flatten_cons, List.flatten_nil, hostOps0, hostOps0_1, hostOps0_2, List.cons_append, List.nil_append, List.append_nil]
  after_results
  rfl

theorem V38 : (V m c main_v38 : _) = truncf (F := Ideal) .bf16 (m (c, Proc.tc.devRef main_arg8)) bitsLt_bf16_f32 := by
  unfold V
  simp only [List.flatten_cons, List.flatten_nil, hostOps0, hostOps0_1, hostOps0_2, List.cons_append, List.nil_append, List.append_nil]
  after_results

theorem V39 : (V m c main_v39 : _) = broadcastInDim S1x512 ![1] bcast_S512_S1x512_1 (m (c, Proc.tc.devRef main_arg9) : FVec Ideal S512 .f32) := by
  unfold V
  simp only [List.flatten_cons, List.flatten_nil, hostOps0, hostOps0_1, hostOps0_2, List.cons_append, List.nil_append, List.append_nil]
  after_results

theorem V40 : (V m c main_v40 : _) = broadcastInDim S1x512 ![1] bcast_S512_S1x512_1 (m (c, Proc.tc.devRef main_arg10) : FVec Ideal S512 .f32) := by
  unfold V
  simp only [List.flatten_cons, List.flatten_nil, hostOps0, hostOps0_1, hostOps0_2, List.cons_append, List.nil_append, List.append_nil]
  after_results

theorem V41 : (V m c main_v41 : _) = transpose S128x4 [1, 0] (m (c, Proc.tc.devRef main_arg12) : FVec Ideal S4x128 .f32) transposes_S4x128_S128x4_1_0 := by
  unfold V
  simp only [List.flatten_cons, List.flatten_nil, hostOps0, hostOps0_1, hostOps0_2, List.cons_append, List.nil_append, List.append_nil]
  after_results

theorem V42 : (V m c main_v42 : _) = truncf (F := Ideal) .bf16 (m (c, Proc.tc.devRef main_arg13)) bitsLt_bf16_f32 := by
  unfold V
  simp only [List.flatten_cons, List.flatten_nil, hostOps0, hostOps0_1, hostOps0_2, List.cons_append, List.nil_append, List.append_nil]
  after_results

theorem V43 : (V m c main_v43 : _) = truncf (F := Ideal) .bf16 (m (c, Proc.tc.devRef main_arg14)) bitsLt_bf16_f32 := by
  unfold V
  simp only [List.flatten_cons, List.flatten_nil, hostOps0, hostOps0_1, hostOps0_2, List.cons_append, List.nil_append, List.append_nil]
  after_results

theorem V44 : (V m c main_v44 : _) = truncf (F := Ideal) .bf16 (m (c, Proc.tc.devRef main_arg15)) bitsLt_bf16_f32 := by
  unfold V
  simp only [List.flatten_cons, List.flatten_nil, hostOps0, hostOps0_1, hostOps0_2, List.cons_append, List.nil_append, List.append_nil]
  after_results

theorem V45 : (V m c main_v45 : _) = truncf (F := Ideal) .bf16 (m (c, Proc.tc.devRef main_arg16)) bitsLt_bf16_f32 := by
  unfold V
  simp only [List.flatten_cons, List.flatten_nil, hostOps0, hostOps0_1, hostOps0_2, List.cons_append, List.nil_append, List.append_nil]
  after_results

theorem V46 : (V m c main_v46 : _) = broadcastInDim S1x3072 ![1] bcast_S3072_S1x3072_1 (m (c, Proc.tc.devRef main_arg17) : FVec Ideal S3072 .f32) := by
  unfold V
  simp only [List.flatten_cons, List.flatten_nil, hostOps0, hostOps0_1, hostOps0_2, List.cons_append, List.nil_append, List.append_nil]
  after_results

theorem blk9 (t : Fin cfg0.N) (h : Fin 8) (r : Fin 128) (s : Fin 256) :
    (iblk m c 9 t (ix3 h r s) : EReal) = m (c, Proc.tc.devRef main_arg6) (ix2 (bucketIx r s) h) := by
  blk_simp [iblk]
  have e : ((win0_9.blk t).view.emb (ix3 h r s)) = ix3 h r s := by blk_ext [idx9 t]
  rw [e, ← Cert.Mix.onehot_sum (fun b => m (c, Proc.tc.devRef main_arg6) (ix2 b h)) r s]
  unfold V
  simp only [List.flatten_cons, List.flatten_nil, hostOps0, hostOps0_1, hostOps0_2, List.cons_append, List.nil_append, List.append_nil]
  after_results
  pointwise [Cert.Mix.bucket, Cert.Mix.bucketOf, Cert.Mix.logPart, Cert.Mix.dist]
  simp only [StableHlo.TRef.toBuf, StableHlo.TRef.ofBuf, cast_eq]
  pointwise

theorem blk0 (t : Fin cfg0.N) (h : Fin 8) :
    (iblk m c 0 t (ix1 h) : EReal) = m (c, Proc.tc.devRef main_arg7) (ix1 h) := by
  blk_simp [iblk]
  rw [V_main_arg7]
  blk_ext [idx0 t]

theorem blk1 (t : Fin cfg0.N) (r : Fin 128) (e : Fin 1024) :
    (iblk m c 1 t (ix2 r e) : EReal) = m (c, Proc.tc.devRef main_arg0) (ix3 ⟨(row (tb t) (tn t) r).val / 16384, by omega⟩ ⟨(row (tb t) (tn t) r).val % 16384, by omega⟩ e) := by
  blk_simp [iblk]
  rw [V37]
  pointwise
  blk_ext [idx1 t, row, tb, tn]

theorem blk2 (t : Fin cfg0.N) (r : Fin 128) (e : Fin 512) :
    (iblk m c 2 t (ix2 r e) : EReal) = m (c, Proc.tc.devRef main_arg1) (ix2 (row (tb t) (tn t) r) e) := by
  blk_simp [iblk]
  rw [V_main_arg1]
  blk_ext [idx2 t, row, tb, tn]

theorem blk3 (t : Fin cfg0.N) (r : Fin 128) (e : Fin 256) :
    (iblk m c 3 t (ix2 r e) : EReal) = m (c, Proc.tc.devRef main_arg2) (ix2 (row (tb t) (tn t) r) e) := by
  blk_simp [iblk]
  rw [V_main_arg2]
  blk_ext [idx3 t, row, tb, tn]

theorem blk5 (t : Fin cfg0.N) (r : Fin 128) (e : Fin 512) :
    (iblk m c 5 t (ix2 r e) : EReal) = m (c, Proc.tc.devRef main_arg3) (ix2 (row (tb t) (tn t) r) e) := by
  blk_simp [iblk]
  rw [V_main_arg3]
  blk_ext [idx5 t, row, tb, tn]

theorem blk7 (t : Fin cfg0.N) (r : Fin 128) (e : Fin 1024) :
    (iblk m c 7 t (ix2 r e) : EReal) = m (c, Proc.tc.devRef main_arg4) (ix2 (row (tb t) (tn t) r) e) := by
  blk_simp [iblk]
  rw [V_main_arg4]
  blk_ext [idx7 t, row, tb, tn]

theorem blk8 (t : Fin cfg0.N) (r : Fin 128) (e : Fin 3072) :
    (iblk m c 8 t (ix2 r e) : EReal) = m (c, Proc.tc.devRef main_arg5) (ix2 (row (tb t) (tn t) r) e) := by
  blk_simp [iblk]
  rw [V_main_arg5]
  blk_ext [idx8 t, row, tb, tn]

theorem blk4 (t : Fin cfg0.N) (r : Fin 128) (e : Fin 256) :
    (iblk m c 4 t (ix2 r e) : EReal) = m (c, Proc.tc.devRef main_arg2) (ix2 ⟨((tb t).val * 128 + ((tn t).val - 1)) * 128 + r.val, by omega⟩ e) := by
  blk_simp [iblk]
  rw [V_main_arg2]
  blk_ext [idx4 t]

theorem blk6 (t : Fin cfg0.N) (k : Fin 16) (e : Fin 512) :
    (iblk m c 6 t (ix2 k e) : EReal) = m (c, Proc.tc.devRef main_arg3) (ix2 ⟨(t.val * 8 - 1) * 16 + k.val, by have := t.isLt; have : cfg0.N = 256 := rfl; omega⟩ e) := by
  blk_simp [iblk]
  rw [V_main_arg3]
  blk_ext [idx6 t]

theorem blk10 (t : Fin cfg0.N) (g : Fin 4) (k y : Fin 128) :
    (iblk m c 10 t (ix3 g k y) : EReal) = m (c, Proc.tc.devRef main_arg8) (ix3 g k y) := by
  blk_simp [iblk]
  rw [V38]
  pointwise
  blk_ext [idx10 t]

theorem blk13 (t : Fin cfg0.N) (g : Fin 4) (k y : Fin 128) :
    (iblk m c 13 t (ix3 g k y) : EReal) = m (c, Proc.tc.devRef main_arg11) (ix3 g k y) := by
  blk_simp [iblk]
  rw [V_main_arg11]
  blk_ext [idx13 t]

theorem blk11 (t : Fin cfg0.N) (e : Fin 512) :
    (iblk m c 11 t (ix2 0 e) : EReal) = m (c, Proc.tc.devRef main_arg9) (ix1 e) := by
  blk_simp [iblk]
  rw [V39]
  pointwise
  blk_ext [idx11 t]

theorem blk12 (t : Fin cfg0.N) (e : Fin 512) :
    (iblk m c 12 t (ix2 0 e) : EReal) = m (c, Proc.tc.devRef main_arg10) (ix1 e) := by
  blk_simp [iblk]
  rw [V40]
  pointwise
  blk_ext [idx12 t]

theorem blk19 (t : Fin cfg0.N) (e : Fin 3072) :
    (iblk m c 19 t (ix2 0 e) : EReal) = m (c, Proc.tc.devRef main_arg17) (ix1 e) := by
  blk_simp [iblk]
  rw [V46]
  pointwise
  blk_ext [idx19 t]

theorem blk14 (t : Fin cfg0.N) (r : Fin 128) (g : Fin 4) :
    (iblk m c 14 t (ix2 r g) : EReal) = m (c, Proc.tc.devRef main_arg12) (ix2 g r) := by
  blk_simp [iblk]
  rw [V41]
  pointwise
  blk_ext [idx14 t]

theorem blk15 (t : Fin cfg0.N) (k : Fin 512) (e : Fin 1024) :
    (iblk m c 15 t (ix2 k e) : EReal) = m (c, Proc.tc.devRef main_arg13) (ix2 k e) := by
  blk_simp [iblk]
  rw [V42]
  pointwise
  blk_ext [idx15 t]

theorem blk16 (t : Fin cfg0.N) (k : Fin 512) (e : Fin 1024) :
    (iblk m c 16 t (ix2 k e) : EReal) = m (c, Proc.tc.devRef main_arg14) (ix2 k e) := by
  blk_simp [iblk]
  rw [V43]
  pointwise
  blk_ext [idx16 t]

theorem blk17 (t : Fin cfg0.N) (k : Fin 512) (e : Fin 1024) :
    (iblk m c 17 t (ix2 k e) : EReal) = m (c, Proc.tc.devRef main_arg15) (ix2 k e) := by
  blk_simp [iblk]
  rw [V44]
  pointwise
  blk_ext [idx17 t]

theorem blk18 (t : Fin cfg0.N) (k : Fin 1024) (e : Fin 1024) :
    (iblk m c 18 t (ix2 k e) : EReal) = m (c, Proc.tc.devRef main_arg16) (ix2 k e) := by
  blk_simp [iblk]
  rw [V45]
  pointwise
  blk_ext [idx18 t]

end Cert.KernelIdeal.Mix

end
-- ==== Proof.Mix.Final.lean ====
/- The kernel's result array is the mixer's. -/
module

public import proofs.«01_k».proof.Proof.Mix.Blocks

@[expose] public section

noncomputable section

namespace Cert.KernelIdeal.Mix

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Value
open Cert.Mix (row krow bucketIx Inp mkInp head logit visBit rms gelu)

section body
variable (i : grid0.Coords) (x1 : FVec Ideal S128x1024 .f32) (x2 : FVec Ideal S128x512 .bf16) (x3 x4 : FVec Ideal S128x256 .bf16)
  (x5 : FVec Ideal S128x512 .f32) (x6 : FVec Ideal S16x512 .f32) (x7 : FVec Ideal S128x1024 .f32) (x8 : FVec Ideal S128x3072 .f32)
  (b : Fin 8 → FVec Ideal S1x128x256 .f32) (s : Fin 8 → Ideal .f32) (wp : Fin 4 → FVec Ideal S1x128x128 .bf16)
  (x11 x12 : FVec Ideal S1x512 .f32) (sp : Fin 4 → FVec Ideal S1x128x128 .f32) (x14 : FVec Ideal S128x4 .f32)
  (x15 x16 x17 : FVec Ideal S512x1024 .bf16) (x18 : FVec Ideal S1024x1024 .bf16) (x19 : FVec Ideal S1x3072 .f32)

/-- The attention branch of the body. -/
def attT : FVec Ideal S128x1024 .f32 :=
  k0_pay25 (F := Ideal) (k0_pay2 (F := Ideal) x3 x4) (k0_pay3 (F := Ideal) x3 x4) (k0_pay4 i) x2
        (k0_pay7 (F := Ideal) (k0_pay5 (F := Ideal) x3 x4) (k0_pay6 (F := Ideal) i x3 x4 x2 (b 0)) (s 0))
        (k0_pay8 (F := Ideal) (k0_pay2 (F := Ideal) x3 x4) (k0_pay3 (F := Ideal) x3 x4) (k0_pay4 i) x2 (b 1) (s 1))
        (k0_pay11 (F := Ideal) (k0_pay3 (F := Ideal) x3 x4) (k0_pay4 i) (k0_pay9 (F := Ideal) x2) (k0_pay10 (F := Ideal) (k0_pay2 (F := Ideal) x3 x4)) (b 2) (s 2))
        (k0_pay16 (F := Ideal) (k0_pay12 (F := Ideal) (k0_pay3 (F := Ideal) x3 x4)) (k0_pay13 (F := Ideal) (k0_pay2 (F := Ideal) x3 x4) (k0_pay4 i) x2 (b 3)) (s 3) (k0_pay14 (F := Ideal) (k0_pay2 (F := Ideal) x3 x4) (k0_pay4 i) x2 (b 3)) (k0_pay15 (F := Ideal) (s 3)))
        (k0_pay17 (F := Ideal) (k0_pay2 (F := Ideal) x3 x4) (k0_pay3 (F := Ideal) x3 x4) (k0_pay4 i) x2 (b 4) (s 4))
        (k0_pay20 (F := Ideal) (k0_pay4 i) (k0_pay18 (F := Ideal) (k0_pay3 (F := Ideal) x3 x4)) (k0_pay19 (F := Ideal) (k0_pay2 (F := Ideal) x3 x4) x2) (b 5) (s 5))
        (k0_pay21 (F := Ideal) (k0_pay3 (F := Ideal) x3 x4)) (s 6) (k0_pay23 (F := Ideal) (k0_pay2 (F := Ideal) x3 x4) (k0_pay4 i) x2 (b 6) (s 6)) (k0_pay24 (F := Ideal) (k0_pay2 (F := Ideal) x3 x4) (k0_pay4 i) x2 (b 6) (s 6)) (b 7) (s 7) x15

/-- The pool branch of the body. -/
def poolB (n : ℕ) : FVec Ideal S128x1024 .f32 :=
  k0_pay34 (F := Ideal) (k0_pay28 (BitVec.ofNat 32 n) (Scalar.cmpi .eq (BitVec.ofNat 32 n) 0#32) x5 x6 (wp 0))
    (k0_pay30 (k0_pay29 (BitVec.ofNat 32 n) (Scalar.cmpi .eq (BitVec.ofNat 32 n) 0#32) x5 x6) (wp 1))
    (k0_pay31 x5 (k0_pay26 (Scalar.cmpi .eq (BitVec.ofNat 32 n) 0#32) x5 x6) (k0_pay27 (BitVec.ofNat 32 n)) (wp 2))
    (k0_pay32 (k0_pay26 (Scalar.cmpi .eq (BitVec.ofNat 32 n) 0#32) x5 x6) (k0_pay27 (BitVec.ofNat 32 n))) (k0_pay33 x5) (wp 3) x11 x16

/-- The whole body. -/
def bodyT : FVec Ideal S128x1024 .f32 :=
  k0_pay1 (F := Ideal) (k0_pay43 (attT i x2 x3 x4 b s x15) (poolB x5 x6 wp x11 x16 (i 1).val) (k0_pay35 x7)
      (k0_pay39 (k0_pay36 x7) (k0_pay37 x7) k0_pay38 x12)
      (iota .tc S128x128 32 [0] iota_S128x128_d0_w32) (iota .tc S128x128 32 [1] iota_S128x128_d1_w32) (k0_pay40 x14)
      (k0_pay41 (k0_pay36 x7) (k0_pay37 x7) k0_pay38 x12 x14 (sp 0))
      (k0_pay42 (k0_pay36 x7) (k0_pay37 x7) k0_pay38 x12 x14 (sp 1)) (sp 2) (sp 3) x17 x8 x19) x1 x18

/-- The body at an index is the mixer at its row, when the blocks are the arguments' blocks. -/
theorem bodyT_at (I : Inp) (β : Fin 2) (n : Fin 128) (hn : (i 1).val = n.val) (r : Fin 128) (e : Fin 1024)
    (h1 : ∀ e, x1 (ix2 r e) = I.x (row β n r) e) (h2 : ∀ e, x2 (ix2 r e) = I.q (row β n r) e)
    (h34 : ∀ s e, stacked x3 x4 s e = I.kv (krow β n s) e)
    (h5 : ∀ r e, x5 (ix2 r e) = I.pz (row β n r) e)
    (h56 : ∀ (e : Fin 512) (k : ℕ) (hk : k < 16), colE (Scalar.cmpi .eq (BitVec.ofNat 32 (i 1).val) 0#32) x5 x6 e (16 + r.val - k) = I.back β n r e k)
    (h7 : ∀ r e, x7 (ix2 r e) = I.guv (row β n r) e)
    (h8 : ∀ e, x8 (ix2 r e) = I.g (row β n r) e) (h9 : ∀ h t, b h (ix3 0 r t) = I.bias h r t) (h0 : ∀ h, s h = I.sink h)
    (h10 : ∀ g k y, wp g (ix3 0 k y) = I.wp g k y) (h11 : ∀ e, x11 (ix2 0 e) = I.ps e) (h12 : ∀ e, x12 (ix2 0 e) = I.vg e)
    (h13 : ∀ g t, sp g (ix3 0 r t) = I.ws g r t) (h14 : ∀ g, x14 (ix2 r g) = I.bs g r)
    (h15 : ∀ k e, x15 (ix2 k e) = I.wa k e) (h16 : ∀ k e, x16 (ix2 k e) = I.wb k e) (h17 : ∀ k e, x17 (ix2 k e) = I.wc k e)
    (h18 : ∀ k e, x18 (ix2 k e) = I.wo k e) (h19 : ∀ e, x19 (ix2 0 e) = I.bg e) :
    bodyT i x1 x2 x3 x4 x5 x6 x7 x8 b s wp x11 x12 sp x14 x15 x16 x17 x18 x19 (ix2 r e) = I.out β n r e := by
  have hA : ∀ j, attT i x2 x3 x4 b s x15 (ix2 r j) = ∑ c, I.attn β n r c * I.wa c j := by
    intro j
    unfold attT
    rw [attn_at i x2 x3 x4 b s x15 n hn r j]
    refine Finset.sum_congr rfl fun c _ => ?_
    simp only [h2, h34, h9, h0, h15]
    rfl
  have hP : ∀ j, poolB x5 x6 wp x11 x16 (i 1).val (ix2 r j) = ∑ c, I.pool β n r c * I.wb c j := by
    intro j
    unfold poolB
    rw [pay34_eq, poolTail_at]
    refine Finset.sum_congr rfl fun c _ => ?_
    rw [poolGs_at _ _ x5 x6 (by have := n.isLt; omega), h11, h16]
    unfold Inp.pool
    congr 2
    refine Finset.sum_congr rfl fun k _ => ?_
    rw [h10]
    congr 1
    unfold pmean Inp.poolD
    rw [h5, hn]
    congr 2
    refine Finset.sum_congr rfl fun q _ => ?_
    rw [← hn]
    refine h56 _ _ ?_
    have : 2 ^ (c.val / 128 + 1) ≤ 2 ^ 4 := Nat.pow_le_pow_right (by omega) (by omega)
    exact lt_of_lt_of_le q.isLt (by simpa using this)
  have hM : ∀ j, mlpT (k0_pay35 x7) (spaGs x14 (k0_pay39 (k0_pay36 x7) (k0_pay37 x7) k0_pay38 x12) sp) x17 (ix2 r j)
      = ∑ c, I.mlp β n r c * I.wc c j := by
    intro j
    rw [mlpT_at]
    refine Finset.sum_congr rfl fun c _ => ?_
    rw [spaGs_at, pay35_at, h7, h14, h17]
    unfold Inp.mlp
    congr 3
    refine Finset.sum_congr rfl fun k _ => ?_
    rw [pay39_at, h13]
    simp only [h7, h12]
    have ec : (⟨c.val / 128 * 128 + c.val % 128, by omega⟩ : Fin 512) = c := Fin.ext (by dsimp only; omega)
    rw [ec]
    rfl
  unfold bodyT
  rw [pay1_at, h1]
  unfold Inp.out
  congr 1
  refine Finset.sum_congr rfl fun j _ => ?_
  rw [pay43_eq, mergeT_at, gateT_at, gateT_at, gateT_at, hA, hP, hM, h18]
  simp only [h8, h19]
  rfl

end body

end Cert.KernelIdeal.Mix

end
-- ==== Proof.Mix.Slices.lean ====
/- The kernel's result array is the mixer's. -/
module

public import proofs.«01_k».proof.Proof.Mix.Blocks

@[expose] public section

noncomputable section

namespace Cert.KernelIdeal.Mix

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Value
open Cert.Mix (row krow bucketIx Inp mkInp head logit visBit rms gelu)

variable (m : (ℓ : Loc nD τ sig) → Buf (Elt Ideal) ℓ) (c : Dev nD)

/-- The arguments in memory. -/
def inpK : Inp := mkInp (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (m (c, Proc.tc.devRef main_arg16)) (m (c, Proc.tc.devRef main_arg17))

/-- One head's bias tile, one head's sink, one group's weight. -/
def biasT (x : FVec Ideal S8x128x256 .f32) (h : Fin 8) : FVec Ideal S1x128x256 .f32 := fun y =>
  x ((Rect.unit (s := S8x128x256) ![h.val, 0, 0] S1x128x256.size (by
    intro a
    match a with
    | 0 => exact Nat.succ_le_of_lt h.isLt
    | 1 => exact le_rfl
    | 2 => exact le_rfl)).idx y)
def sinkT (x : FVec Ideal S8 .f32) (h : Fin 8) : Ideal .f32 :=
  x ((Rect.unit (s := S8) ![h.val] S1.size (by
    intro a
    match a with
    | 0 => exact Nat.succ_le_of_lt h.isLt)).idx (ix1 (0 : Fin 1)))
def groupT {φ : FTy} (x : FVec Ideal S4x128x128 φ) (h : Fin 4) : FVec Ideal S1x128x128 φ := fun y =>
  x ((Rect.unit (s := S4x128x128) ![h.val, 0, 0] S1x128x128.size (by
    intro a
    match a with
    | 0 => exact Nat.succ_le_of_lt h.isLt
    | 1 => exact le_rfl
    | 2 => exact le_rfl)).idx y)

theorem biasT_at (x : FVec Ideal S8x128x256 .f32) (h : Fin 8) (r : Fin 128) (s : Fin 256) :
    biasT x h (ix3 0 r s) = x (ix3 h r s) := by
  unfold biasT
  refine congrArg x (funext fun a => Fin.ext ?_)
  match a with
  | 0 => show h.val + _ = _; rfl
  | 1 => show 0 + _ = _; exact (Nat.zero_add _).trans (Nat.one_mul _)
  | 2 => show 0 + _ = _; exact (Nat.zero_add _).trans (Nat.one_mul _)
theorem sinkT_at (x : FVec Ideal S8 .f32) (h : Fin 8) : sinkT x h = x (ix1 h) := by
  unfold sinkT
  refine congrArg x (funext fun a => Fin.ext ?_)
  match a with
  | 0 => show h.val + _ = _; rfl
theorem groupT_at {φ : FTy} (x : FVec Ideal S4x128x128 φ) (h : Fin 4) (k y : Fin 128) :
    groupT x h (ix3 0 k y) = x (ix3 h k y) := by
  unfold groupT
  refine congrArg x (funext fun a => Fin.ext ?_)
  match a with
  | 0 => show h.val + _ = _; rfl
  | 1 => show 0 + _ = _; exact (Nat.zero_add _).trans (Nat.one_mul _)
  | 2 => show 0 + _ = _; exact (Nat.zero_add _).trans (Nat.one_mul _)

/-- The body's loads of one head or one group. -/
theorem ldB (x : FVec Ideal S8x128x256 .f32) (k : ℕ) (h : Fin 8) (hk : h.val = k) (H) :
    View.ld (Val := Elt Ideal) (e' := .f32) x (Rect.unit (s := S8x128x256) ![k, 0, 0] ![1, 128, 256] H) = biasT x h := by
  subst hk
  rfl
theorem ldS (x : FVec Ideal S8 .f32) (k : ℕ) (h : Fin 8) (hk : h.val = k) (H) (p) :
    View.ld (Val := Elt Ideal) (e' := .f32) x (Rect.unit (s := S8) ![k] ![1] H) (Shape.Idx.first p) = sinkT x h := by
  subst hk
  refine congrArg x (funext fun a => Fin.ext ?_)
  match a with
  | 0 => rfl
theorem ldG (x : FVec Ideal S4x128x128 .f32) (k : ℕ) (h : Fin 4) (hk : h.val = k) (H) :
    View.ld (Val := Elt Ideal) (e' := .f32) x (Rect.unit (s := S4x128x128) ![k, 0, 0] ![1, 128, 128] H) = groupT x h := by
  subst hk
  rfl
theorem ldG' (x : FVec Ideal S4x128x128 .bf16) (k : ℕ) (h : Fin 4) (hk : h.val = k) (H) :
    View.ld (Val := Elt Ideal) (e' := .bf16) x (Rect.unit (s := S4x128x128) ![k, 0, 0] ![1, 128, 128] H) = groupT x h := by
  subst hk
  rfl

theorem pay26_at (v0 : BitVec 1) (x5 : FVec Ideal S128x512 .f32) (x6 : FVec Ideal S16x512 .f32) (k : Fin 144) (e : Fin 512) :
    k0_pay26 (F := Ideal) v0 x5 x6 (ix2 k e) = if h : k.val < 16 then Scalar.select v0 0 (x6 (ix2 ⟨k.val, h⟩ e))
      else x5 (ix2 ⟨k.val - 16, by omega⟩ e) := by
  pointwise [k0_pay26]

end Cert.KernelIdeal.Mix

end
-- ==== Proof.Mix.BodyVal.lean ====
/- The kernel's result array is the mixer's. -/
module

public import proofs.«01_k».proof.Proof.Mix.Final
public import proofs.«01_k».proof.Proof.Mix.Slices

@[expose] public section

noncomputable section

namespace Cert.KernelIdeal.Mix

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Value
open Cert.Mix (row krow bucketIx Inp mkInp head logit visBit rms gelu)

variable (m : (ℓ : Loc nD τ sig) → Buf (Elt Ideal) ℓ) (c : Dev nD)

theorem body_val (t : Fin cfg0.N) (r : Fin 128) (e : Fin 1024) :
    bodyT (grid0.coords t) (iblk m c 1 t) (iblk m c 2 t) (iblk m c 3 t) (iblk m c 4 t) (iblk m c 5 t) (iblk m c 6 t)
      (iblk m c 7 t) (iblk m c 8 t) (biasT (iblk m c 9 t)) (sinkT (iblk m c 0 t)) (groupT (iblk m c 10 t)) (iblk m c 11 t)
      (iblk m c 12 t) (groupT (iblk m c 13 t)) (iblk m c 14 t) (iblk m c 15 t) (iblk m c 16 t) (iblk m c 17 t) (iblk m c 18 t)
      (iblk m c 19 t) (ix2 r e) = (inpK m c).out (tb t) (tn t) r e := by
  refine bodyT_at _ _ _ _ _ _ _ _ _ _ _ _ _ _ _ _ _ _ _ _ _ _ (tb t) (tn t) (coord1 t) r e (fun _ => blk1 m c t _ _)
    (fun _ => blk2 m c t _ _) ?_ (fun _ _ => blk5 m c t _ _) ?_ (fun _ _ => blk7 m c t _ _) (fun _ => blk8 m c t _ _)
    (fun _ _ => (biasT_at _ _ _ _).trans (blk9 m c t _ _ _)) (fun _ => (sinkT_at _ _).trans (blk0 m c t _))
    (fun _ _ _ => (groupT_at _ _ _ _).trans (blk10 m c t _ _ _)) (fun _ => blk11 m c t _) (fun _ => blk12 m c t _)
    (fun _ _ => (groupT_at _ _ _ _).trans (blk13 m c t _ _ _)) (fun _ => blk14 m c t _ _) (fun _ _ => blk15 m c t _ _)
    (fun _ _ => blk16 m c t _ _) (fun _ _ => blk17 m c t _ _) (fun _ _ => blk18 m c t _ _) (fun _ => blk19 m c t _)
  · intro s e
    unfold stacked krow
    by_cases h : s.val < 128
    · rw [dif_pos h, if_pos h]
      exact blk4 m c t _ _
    · rw [dif_neg h, if_neg h]
      exact blk3 m c t _ _
  · intro e k hk
    have hc := coord1 t
    have hN : t.val < 256 := t.isLt
    unfold colE Inp.back
    rw [dif_pos (by omega), hc]
    have ht : t.val = (tb t).val * 128 + (tn t).val := by simp only [tb, tn]; omega
    rw [pay26_at]
    by_cases h : k ≤ r.val
    · rw [dif_neg (by dsimp only; omega), if_neg (by omega)]
      refine (blk5 m c t _ _).trans ?_
      refine congrArg (fun ρ => m (c, Proc.tc.devRef main_arg3) (ix2 ρ e)) (Fin.ext ?_)
      simp only [row]
      omega
    · rw [dif_pos (by dsimp only; omega)]
      by_cases h0 : (tn t).val = 0
      · rw [if_pos (by omega), h0]
        rfl
      · rw [if_neg (by omega)]
        have e0 : Scalar.cmpi .eq (BitVec.ofNat 32 (tn t).val) 0#32 = 0#1 := by
          have : BitVec.ofNat 32 (tn t).val ≠ 0#32 := by
            intro h2
            have h3 := congrArg BitVec.toNat h2
            simp only [BitVec.toNat_ofNat] at h3
            have := (tn t).isLt
            omega
          unfold Scalar.cmpi IntOp.cmpi
          dsimp only
          rw [beq_false_of_ne this]
          rfl
        rw [e0]
        refine (blk6 m c t _ _).trans ?_
        refine congrArg (fun ρ => m (c, Proc.tc.devRef main_arg3) (ix2 ρ e)) (Fin.ext ?_)
        dsimp only
        omega

end Cert.KernelIdeal.Mix

end
-- ==== Proof.Mix.Out.lean ====
/- The kernel's result array is the mixer's. -/
module

public import proofs.«01_k».proof.Proof.Mix.BodyVal

@[expose] public section

noncomputable section

namespace Cert.KernelIdeal.Mix

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Value
open Cert.Mix (row krow bucketIx Inp mkInp head logit visBit rms gelu)

variable (m : (ℓ : Loc nD τ sig) → Buf (Elt Ideal) ℓ) (c : Dev nD)

set_option maxHeartbeats 4000000 in
theorem final : (dats m 0 c).arrAt 20 cfg0.N = (inpK m c).arr := by
  refine (dats m 0 c).arrAt_eq_of_covers 20 _ (by decide +kernel) fun t _ y => ?_
  have hN : t.val < 256 := t.isLt
  obtain ⟨r, e, rfl⟩ : ∃ (r : Fin 128) (e : Fin 1024), y = ix2 r e := ⟨y 0, y 1, by funext a; fin_cases a <;> rfl⟩
  have h := body_val m c t r e
  blk_simp
  rw [after0_20]
  unfold outsAt0
  frame_out
  simp only [ldB _ 0 0 rfl, ldB _ 1 1 rfl, ldB _ 2 2 rfl, ldB _ 3 3 rfl, ldB _ 4 4 rfl, ldB _ 5 5 rfl, ldB _ 6 6 rfl, ldB _ 7 7 rfl,
    ldS _ 0 0 rfl, ldS _ 1 1 rfl, ldS _ 2 2 rfl, ldS _ 3 3 rfl, ldS _ 4 4 rfl, ldS _ 5 5 rfl, ldS _ 6 6 rfl, ldS _ 7 7 rfl,
    ldG _ 0 0 rfl, ldG _ 1 1 rfl, ldG _ 2 2 rfl, ldG _ 3 3 rfl,
    ldG' _ 0 0 rfl, ldG' _ 1 1 rfl, ldG' _ 2 2 rfl, ldG' _ 3 3 rfl]
  refine Eq.trans ?_ (h.trans ?_)
  · unfold bodyT attT poolB
    have hs : ∀ (j : Fin 8) (k : ℕ) (hk : j.val = k) (H), sinkT (iblk m c 0 t) j = View.ld (Val := Elt Ideal) (e' := .f32) (iblk m c 0 t)
        (Rect.unit (s := S8) ![k] ![1] H) (Shape.Idx.first (numel1_S1.symm ▸ Nat.one_pos)) := fun j k hk H => (ldS _ k j hk H _).symm
    rw [hs 0 0 rfl inb_S8_S1_0, hs 1 1 rfl inb_S8_S1_1, hs 2 2 rfl inb_S8_S1_2, hs 3 3 rfl inb_S8_S1_3, hs 4 4 rfl inb_S8_S1_4,
      hs 5 5 rfl inb_S8_S1_5, hs 6 6 rfl inb_S8_S1_6, hs 7 7 rfl inb_S8_S1_7]
    rfl
  · have hx : t.val = (tb t).val * 128 + (tn t).val := by simp only [tb, tn]; omega
    have hr := r.isLt
    have hn := (tn t).isLt
    have h0 : ((((View.whole main_v47).slice (win0_20.rect t)).emb (ix2 r e)) 0).val = t.val * 128 + r.val := by
      show win0_20.index t 0 * 128 + 1 * r.val = _
      rw [idx20 t]
      show t.val * 128 + 1 * r.val = _
      omega
    have h1 : (((View.whole main_v47).slice (win0_20.rect t)).emb (ix2 r e)) 1 = e := by
      refine Fin.ext ?_
      show win0_20.index t 1 * 1024 + 1 * e.val = _
      rw [idx20 t]
      show 0 * 1024 + 1 * e.val = _
      omega
    unfold Inp.arr
    rw [h1]
    congr 1
    · refine Fin.ext ?_
      show _ = _ / 16384
      omega
    · refine Fin.ext ?_
      show _ = _ / 128 % 128
      omega
    · refine Fin.ext ?_
      show _ = _ % 128
      omega

end Cert.KernelIdeal.Mix

end
-- ==== Proof.Mix.Folds.lean ====
/- Two folds of the reference read at an index: a reduction over the last of six axes, and a running sum as a window
   sum padded on the low side. -/
module

public import Idealize.ShloMosaic.Lib.Pointwise

@[expose] public section

noncomputable section

namespace Cert.Mix

open Idealize.ShloMosaic
open scoped BigOperators

section Last
variable {n0 n1 n2 n3 n4 n5 : ℕ}

/-- The indices of six axes that reduce to one of five are those that append a last coordinate. -/
theorem fiber6 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro E
    refine ⟨i 5, ?_⟩
    funext x; apply Fin.ext
    match x with
    | ⟨0, _⟩ => exact (congrArg Fin.val (congrFun E 0)).symm
    | ⟨1, _⟩ => exact (congrArg Fin.val (congrFun E 1)).symm
    | ⟨2, _⟩ => exact (congrArg Fin.val (congrFun E 2)).symm
    | ⟨3, _⟩ => exact (congrArg Fin.val (congrFun E 3)).symm
    | ⟨4, _⟩ => exact (congrArg Fin.val (congrFun E 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum6 (h : (⟨6, ![n0, n1, n2, n3, n4, n5]⟩ : Shape).ReducesTo [5] ⟨5, ![n0, n1, n2, n3, n4]⟩)
    (a : Fin n0) (b : Fin n1) (c : Fin n2) (d : Fin n3) (e : Fin n4)
    (v : (⟨6, ![n0, n1, n2, n3, n4, n5]⟩ : Shape).Idx → EReal) (init : EReal) :
    Ideal.hostReduceAdd h v init (ix5 a b c d e) = init + ∑ k : Fin n5, v (ix6 a b c d e k) :=
  congrArg (init + ·) (Finset.sum_filter_eq_sum_of_fiber _ (fun k : Fin n5 => ix6 a b c d e k)
    (fun _ _ E => congrFun E 5) (fiber6 h a b c d e) v)

theorem max6 (h : (⟨6, ![n0, n1, n2, n3, n4, n5]⟩ : Shape).ReducesTo [5] ⟨5, ![n0, n1, n2, n3, n4]⟩)
    (a : Fin n0) (b : Fin n1) (c : Fin n2) (d : Fin n3) (e : Fin n4) {u : Shape}
    (v : FVec Ideal ⟨6, ![n0, n1, n2, n3, n4, n5]⟩ .f32) (init : FVec Ideal u .f32) (hu : 0 < u.numel) :
    Host.reduce FloatOps.maximumf v init h hu (ix5 a b c d e)
      = (Finset.univ : Finset (Fin n5)).fold max (init (Shape.Idx.first hu) : EReal) (fun k => (v (ix6 a b c d e k) : EReal)) := by
  refine Eq.trans (b := (Finset.univ.filter (fun i => h.drop i = ix5 a b c d e)).fold (max : EReal → EReal → EReal) (init (Shape.Idx.first hu)) v) ?_ ?_
  · exact Host.reduce_eq_fold (α := EReal) max v init h hu (ix5 a b c d e)
  · exact Finset.fold_filter_eq_fold_of_fiber max _ (fun k : Fin n5 => ix6 a b c d e k)
      (fun _ _ E => congrFun E 5) (fiber6 h a b c d e) _ _

end Last

theorem foldl_add {ι : Type} (g : ι → EReal) : ∀ (L : List ι) (v : EReal), L.foldl (fun r n => r + g n) v = v + (L.map g).sum
  | [], v => by simp
  | a :: L, v => by rw [List.foldl_cons, foldl_add g L, List.map_cons, List.sum_cons, add_assoc]

/-- The running sum along axis 1 of four: everything up to the row. -/
theorem cumsum4 {B N G C : ℕ} (hi : ℕ) (hhi : hi + 1 = N)
    (h : (⟨4, ![B, N, G, C]⟩ : Shape).ReduceWindows ![1, N, 1, 1] ![1, 1, 1, 1] ![0, hi, 0, 0] ![0, 0, 0, 0] ⟨4, ![B, N, G, C]⟩)
    (x : (⟨4, ![B, N, G, C]⟩ : Shape).Idx → EReal) (b : Fin B) (p : Fin N) (g : Fin G) (c : Fin C) :
    Ideal.hostReduceWindowAdd ![1, N, 1, 1] ![1, 1, 1, 1] ![0, hi, 0, 0] ![0, 0, 0, 0] h x 0 (ix4 b p g c)
      = ∑ k : Fin N, if k.val ≤ p.val then x (ix4 b k g c) else 0 := by
  unfold Ideal.hostReduceWindowAdd Host.reduceWindow
  dsimp only
  rw [foldl_add, zero_add, ← List.ofFn_eq_map, List.sum_ofFn]
  rw [← Equiv.sum_comp ((⟨4, ![1, N, 1, 1]⟩ : Shape).rowMajor)]
  simp only [Equiv.symm_apply_apply]
  let E : Fin N ≃ (⟨4, ![1, N, 1, 1]⟩ : Shape).Idx :=
    { toFun := fun k => ix4 0 k 0 0
      invFun := fun i => i 1
      left_inv := fun k => rfl
      right_inv := fun i => by
        funext a; apply Fin.ext
        match a with
        | ⟨0, _⟩ => have : (i 0).val < 1 := (i 0).isLt; show 0 = (i 0).val; omega
        | ⟨1, _⟩ => rfl
        | ⟨2, _⟩ => have : (i 2).val < 1 := (i 2).isLt; show 0 = (i 2).val; omega
        | ⟨3, _⟩ => have : (i 3).val < 1 := (i 3).isLt; show 0 = (i 3).val; omega }
  rw [← Equiv.sum_comp E]
  have key : ∀ k : Fin N, (if h_1 : ∀ a : Fin 4,
      (![0, hi, 0, 0] : Fin 4 → ℕ) a ≤ (ix4 b p g c (Fin.cast h.1.symm a)).val * (![1, 1, 1, 1] : Fin 4 → ℕ) a + (E k a).val ∧
      (ix4 b p g c (Fin.cast h.1.symm a)).val * (![1, 1, 1, 1] : Fin 4 → ℕ) a + (E k a).val - (![0, hi, 0, 0] : Fin 4 → ℕ) a
        < (![B, N, G, C] : Fin 4 → ℕ) a then
      x (fun a => ⟨(ix4 b p g c (Fin.cast h.1.symm a)).val * (![1, 1, 1, 1] : Fin 4 → ℕ) a + (E k a).val - (![0, hi, 0, 0] : Fin 4 → ℕ) a, (h_1 a).2⟩)
      else 0) = if hk : hi ≤ p.val + k.val then x (ix4 b ⟨p.val + k.val - hi, by omega⟩ g c) else 0 := by
    intro k
    by_cases hk : hi ≤ p.val + k.val
    · rw [dif_pos hk, dif_pos]
      · congr 1
        funext a; apply Fin.ext
        match a with
        | ⟨0, _⟩ => show b.val * 1 + 0 - 0 = b.val; omega
        | ⟨1, _⟩ => show p.val * 1 + k.val - hi = p.val + k.val - hi; omega
        | ⟨2, _⟩ => show g.val * 1 + 0 - 0 = g.val; omega
        | ⟨3, _⟩ => show c.val * 1 + 0 - 0 = c.val; omega
      · intro a
        match a with
        | ⟨0, _⟩ => show 0 ≤ b.val * 1 + 0 ∧ b.val * 1 + 0 - 0 < B; omega
        | ⟨1, _⟩ => show hi ≤ p.val * 1 + k.val ∧ p.val * 1 + k.val - hi < N; omega
        | ⟨2, _⟩ => show 0 ≤ g.val * 1 + 0 ∧ g.val * 1 + 0 - 0 < G; omega
        | ⟨3, _⟩ => show 0 ≤ c.val * 1 + 0 ∧ c.val * 1 + 0 - 0 < C; omega
    · rw [dif_neg hk, dif_neg]
      intro H
      have h1 : hi ≤ p.val * 1 + k.val := (H 1).1
      omega
  refine (Finset.sum_congr rfl fun k _ => key k).trans ?_
  have e1 : (∑ k : Fin N, if hk : hi ≤ p.val + k.val then x (ix4 b ⟨p.val + k.val - hi, by omega⟩ g c) else 0)
      = ∑ k ∈ Finset.univ.filter (fun k : Fin N => hi ≤ p.val + k.val), if hk : hi ≤ p.val + k.val then x (ix4 b ⟨p.val + k.val - hi, by omega⟩ g c) else 0 := by
    rw [Finset.sum_filter]
    refine Finset.sum_congr rfl fun k _ => ?_
    split <;> rfl
  rw [e1, ← Finset.sum_filter]
  refine Finset.sum_bij' (fun k hk => (⟨p.val + k.val - hi, by omega⟩ : Fin N))
    (fun k hk => (⟨k.val + hi - p.val, by have := (Finset.mem_filter.1 hk).2; omega⟩ : Fin N)) ?_ ?_ ?_ ?_ ?_
  · intro k hk; refine Finset.mem_filter.2 ⟨Finset.mem_univ _, ?_⟩; dsimp only; omega
  · intro k hk; refine Finset.mem_filter.2 ⟨Finset.mem_univ _, ?_⟩; dsimp only; omega
  · intro k hk; have := (Finset.mem_filter.1 hk).2; ext; dsimp only; omega
  · intro k hk; have := (Finset.mem_filter.1 hk).2; ext; dsimp only; omega
  · intro k hk
    rw [dif_pos (Finset.mem_filter.1 hk).2]

/-- The running sum as the host operation states it, from a zero initial value. -/
theorem cumsumHost {B N G C : ℕ} {u : Shape} (hi : ℕ) (hhi : hi + 1 = N)
    (h : (⟨4, ![B, N, G, C]⟩ : Shape).ReduceWindows ![1, N, 1, 1] ![1, 1, 1, 1] ![0, hi, 0, 0] ![0, 0, 0, 0] ⟨4, ![B, N, G, C]⟩)
    (x : FVec Ideal ⟨4, ![B, N, G, C]⟩ .f32) (init : FVec Ideal u .f32) (hu : 0 < u.numel) (h0 : init (Shape.Idx.first hu) = 0)
    (b : Fin B) (p : Fin N) (g : Fin G) (c : Fin C) :
    Host.reduceWindowAdd ![1, N, 1, 1] ![1, 1, 1, 1] ![0, hi, 0, 0] ![0, 0, 0, 0] x init h hu (ix4 b p g c)
      = ∑ k : Fin N, if k.val ≤ p.val then x (ix4 b k g c) else 0 := by
  refine Eq.trans ?_ (cumsum4 hi hhi h x b p g c)
  rw [← h0]
  rfl

/-- Rows of a table gathered at a plane of row numbers: entry `(r, s, c)` is column `c` of row `idx (r, s)`, when the
    number is a row's. -/
theorem gather_rows {N C R S : ℕ} (d : GatherDims ⟨2, ![N, C]⟩ ⟨3, ![R, S, 1]⟩ ⟨3, ![R, S, C]⟩)
    (ho : d.offsetDims = [2]) (hc : d.collapsedSliceDims = [0]) (hb : d.operandBatchingDims = []) (hs : d.startIndicesBatchingDims = [])
    (hm : d.startIndexMap = [0]) (hv : d.indexVectorDim = 2) (hz : d.sliceSizes = ![1, C])
    (x : FVec Ideal ⟨2, ![N, C]⟩ .f32) (idx : IVec ⟨3, ![R, S, 1]⟩ 32) (r : Fin R) (s : Fin S) (c : Fin C) (k : Fin N)
    (hk : (idx (ix3 r s 0)).toInt = (k.val : ℤ)) :
    Host.gather d x idx (ix3 r s c) = x (ix2 k c) := by
  obtain ⟨od, cd, ob, sb, sm, iv, sz, wf⟩ := d
  dsimp only at ho hc hb hs hm hv hz
  subst ho hc hb hs hm hv hz
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ [(0 : Fin 2)] from List.mem_singleton.mpr rfl)]
    have hi : ∀ y, y = ix3 r s 0 → min (idx y).toInt.toNat (N - 1) + 0 + 0 = k.val := by
      rintro _ rfl
      rw [hk]
      have := k.isLt
      simp only [Int.toNat_natCast]
      omega
    refine hi _ (funext fun b => Fin.ext ?_)
    match b with
    | ⟨0, _⟩ => rfl
    | ⟨1, _⟩ => rfl
    | ⟨2, _⟩ => rfl
  · unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    show 0 + 0 + c.val = c.val
    omega

end Cert.Mix

end
-- ==== Proof.Mix.RefAttn.lean ====
/- The reference's attention, operation by operation. -/
module

public import proofs.«01_k».proof.Proof.Gen.ReferenceIdeal
public import proofs.«01_k».proof.Proof.Mix.Args
public import proofs.«01_k».proof.Proof.Mix.Folds
public import Idealize.ShloMosaic.Lib.Pointwise

@[expose] public section

set_option maxRecDepth 16384

noncomputable section

namespace Cert.ReferenceIdeal.Mix

open Idealize.ShloMosaic Idealize.ShloMosaic.TcCoe Idealize.ShloMosaic.Tactic
open Cert.ReferenceIdeal Cert.ReferenceIdeal.Gen
open Cert.Mix
open scoped BigOperators

/-- Every block of rows after the block before it. -/
def prevT (t : FVec Ideal S2x128x128x2x64 .f32) : FVec Ideal S2x128x256x2x64 .f32 :=
  (concatenate S2x128x256x2x64 2 [⟨S2x128x128x2x64, (extractStridedSlice S2x128x128x2x64 ![0, 0, 0, 0, 0] (pad S2x129x128x2x64 ![0, 1, 0, 0, 0] ![0, 0, 0, 0, 0] ![0, 0, 0, 0, 0] t (sitofp .f32 (constantI S_ 32 0#32)) pads_S2x128x128x2x64_S2x129x128x2x64_000_100_000_000_000 h_S_) slices_S2x129x128x2x64_S2x128x128x2x64_0_0_0_0_0)⟩, ⟨S2x128x128x2x64, t⟩] concatenates_S2x128x128x2x64_S2x128x128x2x64_S2x128x256x2x64_d2)

def r3 (kv : FVec Ideal S32768x256 .bf16) : FVec Ideal S2x16384x256 .f32 :=
  shapeCast _ (extf .f32 kv bitsLt_bf16_f32) shapeCasts_S32768x256_S2x16384x256

/-- The keys, and the values. -/
def r22 (kv : FVec Ideal S32768x256 .bf16) : FVec Ideal S2x128x128x2x64 .f32 :=
  shapeCast _ (extractStridedSlice S2x16384x128 ![0, 0, 0] (r3 kv) slices_S2x16384x256_S2x16384x128_0_0_0) shapeCasts_S2x16384x128_S2x128x128x2x64

def r23 (kv : FVec Ideal S32768x256 .bf16) : FVec Ideal S2x128x128x2x64 .f32 :=
  shapeCast _ (extractStridedSlice S2x16384x128 ![0, 0, 128] (r3 kv) slices_S2x16384x256_S2x16384x128_0_0_128) shapeCasts_S2x16384x128_S2x128x128x2x64

def r37 : IVec S1x256 32 :=
  broadcastInDim S1x256 ![1] bcast_S256_S1x256_1 (iotaInDim S256 32 0)

/-- The distances from query to key. -/
def r42 : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 r37)

def r49 : IVec S128x256 32 :=
  maxsi r42 (broadcastInDim S128x256 ![] bcast_S_S128x256 (constantI S_ 32 0#32))

/-- The buckets. -/
def r67 : IVec S128x256 32 :=
  select (cmpi .slt r49 (broadcastInDim S128x256 ![] bcast_S_S128x256 (constantI S_ 32 16#32))) r49 (minsi (addi (broadcastInDim S128x256 ![] bcast_S_S128x256 (constantI S_ 32 16#32)) (fptosi 32 (mulf (Host.divf (Host.log (Host.divf (sitofp .f32 (maxsi r49 (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))

/-- The buckets as row numbers. -/
def ixR : IVec S128x256x1 32 :=
  (broadcastInDim S128x256x1 ![0, 1] bcast_S128x256_S128x256x1_0_1 (select (cmpi .slt r67 (broadcastInDim S128x256 ![] bcast_S_S128x256 (constantI S_ 32 0#32))) (addi r67 (broadcastInDim S128x256 ![] bcast_S_S128x256 (constantI S_ 32 32#32))) r67))

/-- The bias of each head. -/
def biasR (rel : FVec Ideal S32x8 .f32) : FVec Ideal S2x4x128x256 .f32 :=
  (shapeCast _ (transpose S8x128x256 [2, 0, 1] (Host.gather gather_S32x8_S128x256x1_S128x256x8_2_0_n_n_0_2_18 rel ixR) transposes_S128x256x8_S8x128x256_2_0_1) shapeCasts_S8x128x256_S2x4x128x256)

/-- Which keys are seen. -/
def maskR : IVec S2x128x2x4x128x256 1 :=
  (broadcastInDim S2x128x2x4x128x256 ![0, 1, 2, 3, 4, 5] bcast_S1x128x1x1x128x256_S2x128x2x4x128x256_0_1_2_3_4_5 (broadcastInDim S1x128x1x1x128x256 ![1, 4, 5] bcast_S128x128x256_S1x128x1x1x128x256_1_4_5 (andi (broadcastInDim S128x128x256 ![0, 1, 2] bcast_S1x128x256_S128x128x256_0_1_2 (broadcastInDim S1x128x256 ![1, 2] bcast_S128x256_S1x128x256_1_2 (andi (cmpi .sge r42 (broadcastInDim S128x256 ![] bcast_S_S128x256 (constantI S_ 32 0#32))) (cmpi .slt r42 (broadcastInDim S128x256 ![] bcast_S_S128x256 (constantI S_ 32 128#32)))))) (broadcastInDim S128x128x256 ![0, 1, 2] bcast_S128x1x256_S128x128x256_0_1_2 (noti (andi (broadcastInDim S128x1x256 ![0, 1, 2] bcast_S128x1x1_S128x1x256_0_1_2 (broadcastInDim S128x1x1 ![0] bcast_S128_S128x1x1_0 (cmpi .eq (iotaInDim S128 32 0) (broadcastInDim S128 ![] bcast_S_S128 (constantI S_ 32 0#32))))) (broadcastInDim S128x1x256 ![0, 1, 2] bcast_S1x1x256_S128x1x256_0_1_2 (broadcastInDim S1x1x256 ![1, 2] bcast_S1x256_S1x1x256_1_2 (cmpi .slt r37 (broadcastInDim S1x256 ![] bcast_S_S1x256 (constantI S_ 32 128#32)))))))))))

def qR (q : FVec Ideal S32768x512 .bf16) : FVec Ideal S2x128x128x2x4x64 .f32 :=
  (shapeCast _ (shapeCast _ (extf .f32 q bitsLt_bf16_f32) shapeCasts_S32768x512_S2x16384x512) shapeCasts_S2x16384x512_S2x128x128x2x4x64)

/-- The logits. -/
def logitR (q : FVec Ideal S32768x512 .bf16) (kv : FVec Ideal S32768x256 .bf16) (rel : FVec Ideal S32x8 .f32) : FVec Ideal S2x128x2x4x128x256 .f32 :=
  select maskR (addf (mulf (transpose S2x128x2x4x128x256 [0, 1, 2, 5, 4, 3] (Host.dotGeneral dot_S2x128x256x2x64_S2x128x128x2x4x64_S2x128x2x256x128x4_4_5_2_24_013_013 none (prevT (r22 kv)) (qR q)) transposes_S2x128x2x256x128x4_S2x128x2x4x128x256_0_1_2_5_4_3) (broadcastInDim S2x128x2x4x128x256 ![] bcast_S_S2x128x2x4x128x256 (constant S_ .f32 0x3E000000#32))) (broadcastInDim S2x128x2x4x128x256 ![0, 1, 2, 3, 4, 5] bcast_S1x1x2x4x128x256_S2x128x2x4x128x256_0_1_2_3_4_5 (broadcastInDim S1x1x2x4x128x256 ![2, 3, 4, 5] bcast_S2x4x128x256_S1x1x2x4x128x256_2_3_4_5 (biasR rel)))) (broadcastInDim S2x128x2x4x128x256 ![] bcast_S_S2x128x2x4x128x256 (id (constant S_ .f32 0xFF800000#32)))

def r98 (sink : FVec Ideal S8 .f32) : FVec Ideal S2x4x1x1 .f32 :=
  broadcastInDim S2x4x1x1 ![0, 1] bcast_S2x4_S2x4x1x1_0_1 (shapeCast _ sink shapeCasts_S8_S2x4)

/-- The largest of a row's logits. -/
def maxR (L : FVec Ideal S2x128x2x4x128x256 .f32) : FVec Ideal S2x128x2x4x128 .f32 :=
  (Host.reduce FloatOps.maximumf L (constant S_ .f32 0xFF800000#32) reducesTo_S2x128x2x4x128x256_S2x128x2x4x128_d5 h_S_)

/-- The larger of that and the sink. -/
def topR (X : FVec Ideal S2x128x2x4x128 .f32) (sink : FVec Ideal S8 .f32) : FVec Ideal S2x128x2x4x128x1 .f32 :=
  maximumf (broadcastInDim S2x128x2x4x128x1 ![0, 1, 2, 3, 4] bcast_S2x128x2x4x128_S2x128x2x4x128x1_0_1_2_3_4 X) (broadcastInDim S2x128x2x4x128x1 ![0, 1, 2, 3, 4, 5] bcast_S1x1x2x4x1x1_S2x128x2x4x128x1_0_1_2_3_4_5 (broadcastInDim S1x1x2x4x1x1 ![2, 3, 4, 5] bcast_S2x4x1x1_S1x1x2x4x1x1_2_3_4_5 (r98 sink)))

def expR (L : FVec Ideal S2x128x2x4x128x256 .f32) (M : FVec Ideal S2x128x2x4x128x1 .f32) : FVec Ideal S2x128x2x4x128x256 .f32 :=
  Host.exp (subf L (broadcastInDim S2x128x2x4x128x256 ![0, 1, 2, 3, 4, 5] bcast_S2x128x2x4x128x1_S2x128x2x4x128x256_0_1_2_3_4_5 M))

def sumR (E : FVec Ideal S2x128x2x4x128x256 .f32) : FVec Ideal S2x128x2x4x128 .f32 :=
  (Host.reduceAdd E (constant S_ .f32 0x00000000#32) reducesTo_S2x128x2x4x128x256_S2x128x2x4x128_d5 h_S_)

/-- The attention weights. -/
def probR (E : FVec Ideal S2x128x2x4x128x256 .f32) (X : FVec Ideal S2x128x2x4x128 .f32) (M : FVec Ideal S2x128x2x4x128x1 .f32) (sink : FVec Ideal S8 .f32) : FVec Ideal S2x128x2x4x128x256 .f32 :=
  (Host.divf E (broadcastInDim S2x128x2x4x128x256 ![0, 1, 2, 3, 4, 5] bcast_S2x128x2x4x128x1_S2x128x2x4x128x256_0_1_2_3_4_5 (addf (broadcastInDim S2x128x2x4x128x1 ![0, 1, 2, 3, 4] bcast_S2x128x2x4x128_S2x128x2x4x128x1_0_1_2_3_4 X) (Host.exp (subf (broadcastInDim S2x128x2x4x128x1 ![0, 1, 2, 3, 4, 5] bcast_S1x1x2x4x1x1_S2x128x2x4x128x1_0_1_2_3_4_5 (broadcastInDim S1x1x2x4x1x1 ![2, 3, 4, 5] bcast_S2x4x1x1_S1x1x2x4x1x1_2_3_4_5 (r98 sink))) M)))))

/-- The heads' outputs side by side. -/
def attR (P : FVec Ideal S2x128x2x4x128x256 .f32) (kv : FVec Ideal S32768x256 .bf16) : FVec Ideal S2x16384x512 .f32 :=
  (shapeCast _ (transpose S2x128x128x2x4x64 [0, 1, 5, 2, 4, 3] (Host.dotGeneral dot_S2x128x256x2x64_S2x128x2x4x128x256_S2x128x2x64x4x128_2_5_4_34_013_012 none (prevT (r23 kv)) P) transposes_S2x128x2x64x4x128_S2x128x128x2x4x64_0_1_5_2_4_3) shapeCasts_S2x128x128x2x4x64_S2x16384x512)

theorem r22_at (kv : FVec Ideal S32768x256 .bf16) (b : Fin 2) (n s : Fin 128) (h : Fin 2) (d : Fin 64) :
    r22 kv (ix5 b n s h d) = kv (ix2 (row b n s) ⟨h.val * 64 + d.val, by omega⟩) := by
  unfold row
  pointwise [r22, r3]
  congr 2 <;> (apply Fin.ext; dsimp only; omega)

theorem r23_at (kv : FVec Ideal S32768x256 .bf16) (b : Fin 2) (n s : Fin 128) (h : Fin 2) (d : Fin 64) :
    r23 kv (ix5 b n s h d) = kv (ix2 (row b n s) ⟨128 + (h.val * 64 + d.val), by omega⟩) := by
  unfold row
  pointwise [r23, r3]
  congr 2 <;> (apply Fin.ext; dsimp only; omega)

theorem qR_at (q : FVec Ideal S32768x512 .bf16) (b : Fin 2) (n s : Fin 128) (h : Fin 2) (g : Fin 4) (d : Fin 64) :
    qR q (ix6 b n s h g d) = q (ix2 (row b n s) ⟨(h.val * 4 + g.val) * 64 + d.val, by omega⟩) := by
  unfold row
  pointwise [qR]
  congr 2 <;> (apply Fin.ext; dsimp only; omega)

theorem prevT_at (t : FVec Ideal S2x128x128x2x64 .f32) (b : Fin 2) (n : Fin 128) (s : Fin 256) (h : Fin 2) (d : Fin 64) :
    prevT t (ix5 b n s h d) = if hs : s.val < 128 then (if n.val = 0 then 0 else t (ix5 b ⟨n.val - 1, by omega⟩ ⟨s.val, hs⟩ h d))
      else t (ix5 b n ⟨s.val - 128, by omega⟩ h d) := by
  have z : (FloatOps.sitofp .f32 0#32 : Ideal .f32) = 0 := by
    show (((0#32 : BitVec 32).toInt : ℝ) : EReal) = 0
    simp
  pointwise [prevT]
  have hn := n.isLt
  by_cases hs : s.val < 128
  · rw [dif_pos hs, dif_pos hs]
    by_cases h0 : n.val = 0
    · rw [dif_neg (by omega), if_pos h0, z]
    · rw [dif_pos (by omega), if_neg h0]
  · rw [dif_neg hs, dif_neg hs]

theorem r42_at (r : Fin 128) (s : Fin 256) :
    r42 (ix2 r s) = IntOp.subi (IntOp.addi (BitVec.ofNat 32 r.val) 128#32) (BitVec.ofNat 32 s.val) := by
  pointwise [r42, r37]

theorem r49_at (r : Fin 128) (s : Fin 256) : r49 (ix2 r s) = Cert.Mix.dist r s := by
  unfold Cert.Mix.dist
  rw [← r42_at]
  pointwise [r49]

theorem r67_at (r : Fin 128) (s : Fin 256) : r67 (ix2 r s) = bucket r s := by
  unfold bucket bucketOf logPart
  rw [← r49_at]
  pointwise [r67]

theorem maskR_at (b : Fin 2) (n : Fin 128) (h : Fin 2) (g : Fin 4) (r : Fin 128) (s : Fin 256) :
    maskR (ix6 b n h g r s) = visBit n r s := by
  have hx : ∀ a : BitVec 1, IntOp.xori a 1#1 = ~~~a := by decide
  unfold visBit
  rw [hx]
  pointwise [maskR, r42, r37]

theorem ixR_at (r : Fin 128) (s : Fin 256) : (ixR (ix3 r s 0)).toInt = ((bucketIx r s).val : ℤ) := by
  have hk := (bucketIx r s).isLt
  have ht := toInt_small (j := (bucketIx r s).val) (by omega)
  have e : ixR (ix3 r s 0) = Scalar.select (IntOp.cmpi .slt (r67 (ix2 r s)) 0#32) (IntOp.addi (r67 (ix2 r s)) 32#32) (r67 (ix2 r s)) := by
    pointwise [ixR]
  rw [e, r67_at, bucket_eq]
  unfold IntOp.cmpi
  dsimp only
  rw [BitVec.slt, ht]
  have h0 : decide (((bucketIx r s).val : ℤ) < (0#32 : BitVec 32).toInt) = false := by simp
  rw [h0]
  exact ht

theorem biasR_at (rel : FVec Ideal S32x8 .f32) (h : Fin 2) (g : Fin 4) (r : Fin 128) (s : Fin 256) :
    biasR rel (ix4 h g r s) = rel (ix2 (bucketIx r s) ⟨h.val * 4 + g.val, by omega⟩) := by
  pointwise [biasR]
  exact gather_rows _ rfl rfl rfl rfl rfl rfl rfl rel ixR r s _ _ (ixR_at r s)

theorem negInf : Ideal.ofBits .f32 0xFF800000#32 = ⊥ := by simp [Ideal.ofBits, Ideal.ieee]

theorem maxR_at (L : FVec Ideal S2x128x2x4x128x256 .f32) (b : Fin 2) (n : Fin 128) (h : Fin 2) (g : Fin 4) (r : Fin 128) :
    maxR L (ix5 b n h g r) = Finset.univ.fold max ⊥ (fun s => L (ix6 b n h g r s)) := by
  rw [← negInf]
  exact max6 _ b n h g r L _ _

theorem sumR_at (E : FVec Ideal S2x128x2x4x128x256 .f32) (b : Fin 2) (n : Fin 128) (h : Fin 2) (g : Fin 4) (r : Fin 128) :
    sumR E (ix5 b n h g r) = ∑ s, E (ix6 b n h g r s) := by
  refine Eq.trans ?_ (zero_add _)
  rw [← Ideal.ofBits_zero_f32]
  exact sum6 _ b n h g r E _

theorem logitR_at (q : FVec Ideal S32768x512 .bf16) (kv : FVec Ideal S32768x256 .bf16) (rel : FVec Ideal S32x8 .f32)
    (b : Fin 2) (n : Fin 128) (h : Fin 2) (g : Fin 4) (r : Fin 128) (s : Fin 256) :
    logitR q kv rel (ix6 b n h g r s) = logit (fun x => qR q (ix6 b n r h g x)) (fun s x => prevT (r22 kv) (ix5 b n s h x))
      (visBit n r) (fun s => biasR rel (ix4 h g r s)) s := by
  unfold logit
  rw [← maskR_at b n h g r s]
  pointwise [logitR]
  show Scalar.select _ _ (Ideal.ofBits .f32 0xFF800000#32) = _
  rw [negInf]
  congr 3
  exact Finset.sum_congr rfl fun x _ => mul_comm _ _

theorem topR_at (X : FVec Ideal S2x128x2x4x128 .f32) (sink : FVec Ideal S8 .f32)
    (b : Fin 2) (n : Fin 128) (h : Fin 2) (g : Fin 4) (r : Fin 128) :
    topR X sink (ix6 b n h g r 0) = max (X (ix5 b n h g r)) (sink (ix1 ⟨h.val * 4 + g.val, by omega⟩)) := by
  pointwise [topR, r98]

theorem expR_at (L : FVec Ideal S2x128x2x4x128x256 .f32) (M : FVec Ideal S2x128x2x4x128x1 .f32)
    (b : Fin 2) (n : Fin 128) (h : Fin 2) (g : Fin 4) (r : Fin 128) (s : Fin 256) :
    expR L M (ix6 b n h g r s) = Ideal.exp (L (ix6 b n h g r s) - M (ix6 b n h g r 0)) := by
  pointwise [expR]

theorem probR_at (E : FVec Ideal S2x128x2x4x128x256 .f32) (X : FVec Ideal S2x128x2x4x128 .f32)
    (M : FVec Ideal S2x128x2x4x128x1 .f32) (sink : FVec Ideal S8 .f32)
    (b : Fin 2) (n : Fin 128) (h : Fin 2) (g : Fin 4) (r : Fin 128) (s : Fin 256) :
    probR E X M sink (ix6 b n h g r s) = Ideal.div (E (ix6 b n h g r s))
      (X (ix5 b n h g r) + Ideal.exp (sink (ix1 ⟨h.val * 4 + g.val, by omega⟩) - M (ix6 b n h g r 0))) := by
  pointwise [probR, r98]

theorem attR_at (P : FVec Ideal S2x128x2x4x128x256 .f32) (kv : FVec Ideal S32768x256 .bf16)
    (b : Fin 2) (n r : Fin 128) (c : Fin 512) :
    attR P kv (ix3 b ⟨n.val * 128 + r.val, by omega⟩ c)
      = ∑ s : Fin 256, prevT (r23 kv) (ix5 b n s ⟨c.val / 256, by omega⟩ ⟨c.val % 64, by omega⟩)
        * P (ix6 b n ⟨c.val / 256, by omega⟩ ⟨c.val / 64 % 4, by omega⟩ r s) := by
  pointwise [attR]

end Cert.ReferenceIdeal.Mix

end
-- ==== Proof.Mix.RefPool.lean ====
/- The reference's pool branch, operation by operation. -/
module

public import proofs.«01_k».proof.Proof.Gen.ReferenceIdeal
public import proofs.«01_k».proof.Proof.Mix.Args
public import proofs.«01_k».proof.Proof.Mix.Folds
public import Idealize.ShloMosaic.Lib.Pointwise

@[expose] public section

set_option maxRecDepth 16384

noncomputable section

namespace Cert.ReferenceIdeal.Mix

open Idealize.ShloMosaic Idealize.ShloMosaic.TcCoe Idealize.ShloMosaic.Tactic
open Cert.ReferenceIdeal Cert.ReferenceIdeal.Gen
open Cert.Mix
open scoped BigOperators

def r120 (pz : FVec Ideal S32768x512 .f32) : FVec Ideal S2x16384x4x128 .f32 :=
  shapeCast _ (shapeCast _ pz shapeCasts_S32768x512_S2x16384x512) shapeCasts_S2x16384x512_S2x16384x4x128

/-- The running sums. -/
def r121 (pz : FVec Ideal S32768x512 .f32) : FVec Ideal S2x16384x4x128 .f32 :=
  Host.reduceWindowAdd ![1, 16384, 1, 1] ![1, 1, 1, 1] ![0, 16383, 0, 0] ![0, 0, 0, 0] (r120 pz) (broadcastInDim S_ ![] bcast_S_S_ (constant S_ .f32 0x00000000#32)) reduceWindows_S2x16384x4x128_S2x16384x4x128_w1s1p0_0_w16384s1p16383_0_w1s1p0_0_w1s1p0_0 h_S_

def r124 : FVec Ideal S16384 .f32 :=
  addf (broadcastInDim S16384 ![] bcast_S_S16384 (constant S_ .f32 0x3F800000#32)) (sitofp .f32 (iotaInDim S16384 32 0))

def r126 (C : FVec Ideal S2x16384x4x128 .f32) : FVec Ideal S2x16384x128 .f32 :=
  shapeCast _ (extractStridedSlice S2x16384x1x128 ![0, 0, 0, 0] C slices_S2x16384x4x128_S2x16384x1x128_0_0_0_0) shapeCasts_S2x16384x1x128_S2x16384x128

/-- Group 0: the mean of the last rows less the row. -/
def meanR0 (Z : FVec Ideal S2x16384x4x128 .f32) (C : FVec Ideal S2x16384x4x128 .f32) : FVec Ideal S2x16384x1x128 .f32 :=
  (broadcastInDim S2x16384x1x128 ![0, 1, 3] bcast_S2x16384x128_S2x16384x1x128_0_1_3 (subf (Host.divf (subf (r126 C) (extractStridedSlice S2x16384x128 ![0, 0, 0] (pad S2x16386x128 ![0, 2, 0] ![0, 0, 0] ![0, 0, 0] (r126 C) (sitofp .f32 (constantI S_ 32 0#32)) pads_S2x16384x128_S2x16386x128_000_200_000 h_S_) slices_S2x16386x128_S2x16384x128_0_0_0)) (broadcastInDim S2x16384x128 ![0, 1, 2] bcast_S1x16384x1_S2x16384x128_0_1_2 (broadcastInDim S1x16384x1 ![1] bcast_S16384_S1x16384x1_1 (minimumf r124 (broadcastInDim S16384 ![] bcast_S_S16384 (constant S_ .f32 0x40000000#32)))))) (shapeCast _ (extractStridedSlice S2x16384x1x128 ![0, 0, 0, 0] Z slices_S2x16384x4x128_S2x16384x1x128_0_0_0_0) shapeCasts_S2x16384x1x128_S2x16384x128)))

def r139 (C : FVec Ideal S2x16384x4x128 .f32) : FVec Ideal S2x16384x128 .f32 :=
  shapeCast _ (extractStridedSlice S2x16384x1x128 ![0, 0, 1, 0] C slices_S2x16384x4x128_S2x16384x1x128_0_0_1_0) shapeCasts_S2x16384x1x128_S2x16384x128

/-- Group 1: the mean of the last rows less the row. -/
def meanR1 (Z : FVec Ideal S2x16384x4x128 .f32) (C : FVec Ideal S2x16384x4x128 .f32) : FVec Ideal S2x16384x1x128 .f32 :=
  (broadcastInDim S2x16384x1x128 ![0, 1, 3] bcast_S2x16384x128_S2x16384x1x128_0_1_3 (subf (Host.divf (subf (r139 C) (extractStridedSlice S2x16384x128 ![0, 0, 0] (pad S2x16388x128 ![0, 4, 0] ![0, 0, 0] ![0, 0, 0] (r139 C) (sitofp .f32 (constantI S_ 32 0#32)) pads_S2x16384x128_S2x16388x128_000_400_000 h_S_) slices_S2x16388x128_S2x16384x128_0_0_0)) (broadcastInDim S2x16384x128 ![0, 1, 2] bcast_S1x16384x1_S2x16384x128_0_1_2 (broadcastInDim S1x16384x1 ![1] bcast_S16384_S1x16384x1_1 (minimumf r124 (broadcastInDim S16384 ![] bcast_S_S16384 (constant S_ .f32 0x40800000#32)))))) (shapeCast _ (extractStridedSlice S2x16384x1x128 ![0, 0, 1, 0] Z slices_S2x16384x4x128_S2x16384x1x128_0_0_1_0) shapeCasts_S2x16384x1x128_S2x16384x128)))

def r152 (C : FVec Ideal S2x16384x4x128 .f32) : FVec Ideal S2x16384x128 .f32 :=
  shapeCast _ (extractStridedSlice S2x16384x1x128 ![0, 0, 2, 0] C slices_S2x16384x4x128_S2x16384x1x128_0_0_2_0) shapeCasts_S2x16384x1x128_S2x16384x128

/-- Group 2: the mean of the last rows less the row. -/
def meanR2 (Z : FVec Ideal S2x16384x4x128 .f32) (C : FVec Ideal S2x16384x4x128 .f32) : FVec Ideal S2x16384x1x128 .f32 :=
  (broadcastInDim S2x16384x1x128 ![0, 1, 3] bcast_S2x16384x128_S2x16384x1x128_0_1_3 (subf (Host.divf (subf (r152 C) (extractStridedSlice S2x16384x128 ![0, 0, 0] (pad S2x16392x128 ![0, 8, 0] ![0, 0, 0] ![0, 0, 0] (r152 C) (sitofp .f32 (constantI S_ 32 0#32)) pads_S2x16384x128_S2x16392x128_000_800_000 h_S_) slices_S2x16392x128_S2x16384x128_0_0_0)) (broadcastInDim S2x16384x128 ![0, 1, 2] bcast_S1x16384x1_S2x16384x128_0_1_2 (broadcastInDim S1x16384x1 ![1] bcast_S16384_S1x16384x1_1 (minimumf r124 (broadcastInDim S16384 ![] bcast_S_S16384 (constant S_ .f32 0x41000000#32)))))) (shapeCast _ (extractStridedSlice S2x16384x1x128 ![0, 0, 2, 0] Z slices_S2x16384x4x128_S2x16384x1x128_0_0_2_0) shapeCasts_S2x16384x1x128_S2x16384x128)))

def r165 (C : FVec Ideal S2x16384x4x128 .f32) : FVec Ideal S2x16384x128 .f32 :=
  shapeCast _ (extractStridedSlice S2x16384x1x128 ![0, 0, 3, 0] C slices_S2x16384x4x128_S2x16384x1x128_0_0_3_0) shapeCasts_S2x16384x1x128_S2x16384x128

/-- Group 3: the mean of the last rows less the row. -/
def meanR3 (Z : FVec Ideal S2x16384x4x128 .f32) (C : FVec Ideal S2x16384x4x128 .f32) : FVec Ideal S2x16384x1x128 .f32 :=
  (broadcastInDim S2x16384x1x128 ![0, 1, 3] bcast_S2x16384x128_S2x16384x1x128_0_1_3 (subf (Host.divf (subf (r165 C) (extractStridedSlice S2x16384x128 ![0, 0, 0] (pad S2x16400x128 ![0, 16, 0] ![0, 0, 0] ![0, 0, 0] (r165 C) (sitofp .f32 (constantI S_ 32 0#32)) pads_S2x16384x128_S2x16400x128_000_1600_000 h_S_) slices_S2x16400x128_S2x16384x128_0_0_0)) (broadcastInDim S2x16384x128 ![0, 1, 2] bcast_S1x16384x1_S2x16384x128_0_1_2 (broadcastInDim S1x16384x1 ![1] bcast_S16384_S1x16384x1_1 (minimumf r124 (broadcastInDim S16384 ![] bcast_S_S16384 (constant S_ .f32 0x41800000#32)))))) (shapeCast _ (extractStridedSlice S2x16384x1x128 ![0, 0, 3, 0] Z slices_S2x16384x4x128_S2x16384x1x128_0_0_3_0) shapeCasts_S2x16384x1x128_S2x16384x128)))

/-- The four groups. -/
def meanR (Z : FVec Ideal S2x16384x4x128 .f32) (C : FVec Ideal S2x16384x4x128 .f32) : FVec Ideal S2x16384x4x128 .f32 :=
  (concatenate S2x16384x4x128 2 [⟨S2x16384x1x128, (meanR0 Z C)⟩, ⟨S2x16384x1x128, (meanR1 Z C)⟩, ⟨S2x16384x1x128, (meanR2 Z C)⟩, ⟨S2x16384x1x128, (meanR3 Z C)⟩] concatenates_S2x16384x1x128_S2x16384x1x128_S2x16384x1x128_S2x16384x1x128_S2x16384x4x128_d2 : FVec Ideal S2x16384x4x128 .f32)

/-- The pool branch before its projection. -/
def poolR (M : FVec Ideal S2x16384x4x128 .f32) (wp : FVec Ideal S4x128x128 .f32) (ps : FVec Ideal S512 .f32) : FVec Ideal S2x16384x512 .f32 :=
  mulf (shapeCast _ (transpose S2x16384x4x128 [2, 3, 0, 1] (Host.dotGeneral dot_S4x128x128_S2x16384x4x128_S4x128x2x16384_1_3_2_01_0_2 none wp (M)) transposes_S4x128x2x16384_S2x16384x4x128_2_3_0_1) shapeCasts_S2x16384x4x128_S2x16384x512) (broadcastInDim S2x16384x512 ![0, 1, 2] bcast_S1x1x512_S2x16384x512_0_1_2 (broadcastInDim S1x1x512 ![2] bcast_S512_S1x1x512_2 ps))

theorem r120_at (pz : FVec Ideal S32768x512 .f32) (b : Fin 2) (t : Fin 16384) (g : Fin 4) (c : Fin 128) :
    r120 pz (ix4 b t g c) = pz (ix2 ⟨b.val * 16384 + t.val, by omega⟩ ⟨g.val * 128 + c.val, by omega⟩) := by
  pointwise [r120]

theorem r121_at (pz : FVec Ideal S32768x512 .f32) (b : Fin 2) (t : Fin 16384) (g : Fin 4) (c : Fin 128) :
    r121 pz (ix4 b t g c) = ∑ k : Fin 16384, if k.val ≤ t.val then r120 pz (ix4 b k g c) else 0 := by
  refine cumsumHost 16383 rfl _ _ _ _ ?_ b t g c
  pointwise

/-- The number of rows a window of `w` covers. -/
theorem cnt_eq (t : Fin 16384) (w : ℕ) (B : EReal) (hB : B = ((w : ℝ) : EReal)) :
    min (1 + (FloatOps.sitofp .f32 (BitVec.ofNat 32 t.val) : Ideal .f32)) B = (((min (t.val + 1) w : ℕ) : ℝ) : EReal) := by
  have h1 : (FloatOps.sitofp .f32 (BitVec.ofNat 32 t.val) : Ideal .f32) = ((t.val : ℝ) : EReal) := by
    show (((BitVec.ofNat 32 t.val).toInt : ℝ) : EReal) = _
    rw [toInt_small (j := t.val) (by have := t.isLt; omega), Int.cast_natCast]
  rw [h1, hB, ← EReal.coe_one, ← EReal.coe_add, ← EReal.coe_strictMono.monotone.map_min]
  congr 1
  push_cast
  rw [add_comm]

theorem sit0 : (FloatOps.sitofp .f32 0#32 : Ideal .f32) = 0 := by
  show (((0#32 : BitVec 32).toInt : ℝ) : EReal) = 0
  simp

theorem meanR0_at (Z C : FVec Ideal S2x16384x4x128 .f32) (b : Fin 2) (t : Fin 16384) (c : Fin 128) :
    meanR0 Z C (ix4 b t 0 c) = Ideal.div (C (ix4 b t 0 c) - (if h : 2 ≤ t.val then C (ix4 b ⟨t.val - 2, by omega⟩ 0 c) else 0))
      (((min (t.val + 1) 2 : ℕ) : ℝ) : EReal) - Z (ix4 b t 0 c) := by
  have ht : t.val - 2 < 16384 := by have := t.isLt; omega
  rw [← cnt_eq t 2 (Ideal.ofBits .f32 0x40000000#32) (by simp [Ideal.ofBits, Ideal.ieee]; rw [← EReal.coe_mul]; norm_num)]
  pointwise [meanR0, r126, r124]
  simp only [ht, and_true, sit0]

theorem meanR1_at (Z C : FVec Ideal S2x16384x4x128 .f32) (b : Fin 2) (t : Fin 16384) (c : Fin 128) :
    meanR1 Z C (ix4 b t 0 c) = Ideal.div (C (ix4 b t 1 c) - (if h : 4 ≤ t.val then C (ix4 b ⟨t.val - 4, by omega⟩ 1 c) else 0))
      (((min (t.val + 1) 4 : ℕ) : ℝ) : EReal) - Z (ix4 b t 1 c) := by
  have ht : t.val - 4 < 16384 := by have := t.isLt; omega
  rw [← cnt_eq t 4 (Ideal.ofBits .f32 0x40800000#32) (by simp [Ideal.ofBits, Ideal.ieee]; rw [← EReal.coe_mul]; norm_num)]
  pointwise [meanR1, r139, r124]
  simp only [ht, and_true, sit0]

theorem meanR2_at (Z C : FVec Ideal S2x16384x4x128 .f32) (b : Fin 2) (t : Fin 16384) (c : Fin 128) :
    meanR2 Z C (ix4 b t 0 c) = Ideal.div (C (ix4 b t 2 c) - (if h : 8 ≤ t.val then C (ix4 b ⟨t.val - 8, by omega⟩ 2 c) else 0))
      (((min (t.val + 1) 8 : ℕ) : ℝ) : EReal) - Z (ix4 b t 2 c) := by
  have ht : t.val - 8 < 16384 := by have := t.isLt; omega
  rw [← cnt_eq t 8 (Ideal.ofBits .f32 0x41000000#32) (by simp [Ideal.ofBits, Ideal.ieee]; rw [← EReal.coe_mul]; norm_num)]
  pointwise [meanR2, r152, r124]
  simp only [ht, and_true, sit0]

theorem meanR3_at (Z C : FVec Ideal S2x16384x4x128 .f32) (b : Fin 2) (t : Fin 16384) (c : Fin 128) :
    meanR3 Z C (ix4 b t 0 c) = Ideal.div (C (ix4 b t 3 c) - (if h : 16 ≤ t.val then C (ix4 b ⟨t.val - 16, by omega⟩ 3 c) else 0))
      (((min (t.val + 1) 16 : ℕ) : ℝ) : EReal) - Z (ix4 b t 3 c) := by
  have ht : t.val - 16 < 16384 := by have := t.isLt; omega
  rw [← cnt_eq t 16 (Ideal.ofBits .f32 0x41800000#32) (by simp [Ideal.ofBits, Ideal.ieee]; rw [← EReal.coe_mul]; norm_num)]
  pointwise [meanR3, r165, r124]
  simp only [ht, and_true, sit0]

/-- A group's mean, less the row. -/
theorem meanR_at (Z C : FVec Ideal S2x16384x4x128 .f32) (b : Fin 2) (t : Fin 16384) (g : Fin 4) (c : Fin 128) :
    meanR Z C (ix4 b t g c) = Ideal.div (C (ix4 b t g c)
        - (if h : 2 ^ (g.val + 1) ≤ t.val then C (ix4 b ⟨t.val - 2 ^ (g.val + 1), lt_of_le_of_lt (Nat.sub_le _ _) t.isLt⟩ g c) else 0))
      (((min (t.val + 1) (2 ^ (g.val + 1)) : ℕ) : ℝ) : EReal) - Z (ix4 b t g c) := by
  match g with
  | 0 =>
    refine Eq.trans ?_ (meanR0_at Z C b t c)
    pointwise [meanR]
  | 1 =>
    refine Eq.trans ?_ (meanR1_at Z C b t c)
    pointwise [meanR]
  | 2 =>
    refine Eq.trans ?_ (meanR2_at Z C b t c)
    pointwise [meanR]
  | 3 =>
    refine Eq.trans ?_ (meanR3_at Z C b t c)
    pointwise [meanR]

theorem poolR_at (M : FVec Ideal S2x16384x4x128 .f32) (wp : FVec Ideal S4x128x128 .f32) (ps : FVec Ideal S512 .f32)
    (b : Fin 2) (t : Fin 16384) (c : Fin 512) :
    poolR M wp ps (ix3 b t c) = (∑ k : Fin 128, M (ix4 b t ⟨c.val / 128, by omega⟩ k)
      * wp (ix3 ⟨c.val / 128, by omega⟩ k ⟨c.val % 128, by omega⟩)) * ps (ix1 c) := by
  pointwise [poolR]
  congr 1
  exact Finset.sum_congr rfl fun k _ => mul_comm _ _

end Cert.ReferenceIdeal.Mix

end
-- ==== Proof.Mix.RefMlp.lean ====
/- The reference's spatial branch, gates and output, operation by operation. -/
module

public import proofs.«01_k».proof.Proof.Gen.ReferenceIdeal
public import proofs.«01_k».proof.Proof.Mix.Args
public import proofs.«01_k».proof.Proof.Mix.Folds
public import Idealize.ShloMosaic.Lib.Pointwise

@[expose] public section

set_option maxRecDepth 16384

noncomputable section

namespace Cert.ReferenceIdeal.Mix

open Idealize.ShloMosaic Idealize.ShloMosaic.TcCoe Idealize.ShloMosaic.Tactic
open Cert.ReferenceIdeal Cert.ReferenceIdeal.Gen
open Cert.Mix
open scoped BigOperators

def r7 (guv : FVec Ideal S32768x1024 .f32) : FVec Ideal S2x16384x1024 .f32 :=
  shapeCast _ guv shapeCasts_S32768x1024_S2x16384x1024

def r8 (guv : FVec Ideal S32768x1024 .f32) : FVec Ideal S2x16384x512 .f32 :=
  extractStridedSlice S2x16384x512 ![0, 0, 0] (r7 guv) slices_S2x16384x1024_S2x16384x512_0_0_0

def r9 (guv : FVec Ideal S32768x1024 .f32) : FVec Ideal S2x16384x512 .f32 :=
  extractStridedSlice S2x16384x512 ![0, 0, 512] (r7 guv) slices_S2x16384x1024_S2x16384x512_0_0_512

/-- The gelu. -/
def geluR (U : FVec Ideal S2x16384x512 .f32) : FVec Ideal S2x16384x512 .f32 :=
  mulf U (mulf (broadcastInDim S2x16384x512 ![] bcast_S_S2x16384x512 (constant S_ .f32 0x3F000000#32)) (addf (broadcastInDim S2x16384x512 ![] bcast_S_S2x16384x512 (constant S_ .f32 0x3F800000#32)) (Host.tanh (mulf (broadcastInDim S2x16384x512 ![] bcast_S_S2x16384x512 (constant S_ .f32 0x3F4C422A#32)) (addf U (mulf (broadcastInDim S2x16384x512 ![] bcast_S_S2x16384x512 (constant S_ .f32 0x3D372713#32)) (mulf (mulf U U) U)))))))

/-- The norm of a row. -/
def normR (U : FVec Ideal S2x16384x512 .f32) (vg : FVec Ideal S512 .f32) : FVec Ideal S2x16384x512 .f32 :=
  (mulf (mulf U (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf U U) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 vg)))

/-- The spatial weights of earlier rows. -/
def trilR (ws : FVec Ideal S4x128x128 .f32) : FVec Ideal S4x128x128 .f32 :=
  (select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) ws (broadcastInDim S4x128x128 ![] bcast_S_S4x128x128 (constant S_ .f32 0x00000000#32)))

/-- The spatial branch before its projection. -/
def mixR (U : FVec Ideal S2x16384x512 .f32) (V : FVec Ideal S2x16384x512 .f32) (W : FVec Ideal S4x128x128 .f32) (bs : FVec Ideal S4x128 .f32) : FVec Ideal S2x16384x512 .f32 :=
  (mulf U (shapeCast _ (addf (transpose S2x128x128x4x128 [1, 2, 4, 0, 3] (Host.dotGeneral dot_S2x128x128x4x128_S4x128x128_S4x2x128x128x128_2_2_014_1_3_0 none (shapeCast _ V shapeCasts_S2x16384x512_S2x128x128x4x128) W) transposes_S4x2x128x128x128_S2x128x128x4x128_1_2_4_0_3) (broadcastInDim S2x128x128x4x128 ![0, 1, 2, 3, 4] bcast_S1x1x128x4x1_S2x128x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] bs transposes_S4x128_S128x4_1_0))))) shapeCasts_S2x128x128x4x128_S2x16384x512))

/-- The gates. -/
def gateR (g : FVec Ideal S32768x3072 .f32) (bg : FVec Ideal S3072 .f32) : FVec Ideal S2x16384x3x1024 .f32 :=
  shapeCast _ (Host.divf (broadcastInDim S2x16384x3072 ![] bcast_S_S2x16384x3072 (constant S_ .f32 0x3F800000#32)) (addf (broadcastInDim S2x16384x3072 ![] bcast_S_S2x16384x3072 (constant S_ .f32 0x3F800000#32)) (Host.exp (Host.negf (addf (shapeCast _ g shapeCasts_S32768x3072_S2x16384x3072) (broadcastInDim S2x16384x3072 ![0, 1, 2] bcast_S1x1x3072_S2x16384x3072_0_1_2 (broadcastInDim S1x1x3072 ![2] bcast_S3072_S1x1x3072_2 bg))))))) shapeCasts_S2x16384x3072_S2x16384x3x1024

/-- The gated sum of the three branches. -/
def mergeR (A B C : FVec Ideal S2x16384x512 .f32) (G : FVec Ideal S2x16384x3x1024 .f32) (wa : FVec Ideal S512x1024 .f32) (wb : FVec Ideal S512x1024 .f32) (wc : FVec Ideal S512x1024 .f32) : FVec Ideal S2x16384x1024 .f32 :=
  addf (addf (mulf (shapeCast _ (extractStridedSlice S2x16384x1x1024 ![0, 0, 0, 0] G slices_S2x16384x3x1024_S2x16384x1x1024_0_0_0_0) shapeCasts_S2x16384x1x1024_S2x16384x1024) (Host.dotGeneral dot_S2x16384x512_S512x1024_S2x16384x1024_2_0_01_1_n_n none A wa)) (mulf (shapeCast _ (extractStridedSlice S2x16384x1x1024 ![0, 0, 1, 0] G slices_S2x16384x3x1024_S2x16384x1x1024_0_0_1_0) shapeCasts_S2x16384x1x1024_S2x16384x1024) (Host.dotGeneral dot_S2x16384x512_S512x1024_S2x16384x1024_2_0_01_1_n_n none B wb))) (mulf (shapeCast _ (extractStridedSlice S2x16384x1x1024 ![0, 0, 2, 0] G slices_S2x16384x3x1024_S2x16384x1x1024_0_0_2_0) shapeCasts_S2x16384x1x1024_S2x16384x1024) (Host.dotGeneral dot_S2x16384x512_S512x1024_S2x16384x1024_2_0_01_1_n_n none C wc))

/-- The result. -/
def outR (M : FVec Ideal S2x16384x1024 .f32) (x : FVec Ideal S2x16384x1024 .f32) (wo : FVec Ideal S1024x1024 .f32) : FVec Ideal S32768x1024 .f32 :=
  shapeCast _ (addf x (Host.dotGeneral dot_S2x16384x1024_S1024x1024_S2x16384x1024_2_0_01_1_n_n none M wo)) shapeCasts_S2x16384x1024_S32768x1024

theorem r8_at (guv : FVec Ideal S32768x1024 .f32) (b : Fin 2) (t : Fin 16384) (c : Fin 512) :
    r8 guv (ix3 b t c) = guv (ix2 ⟨b.val * 16384 + t.val, by omega⟩ ⟨c.val, by omega⟩) := by
  pointwise [r8, r7]

theorem r9_at (guv : FVec Ideal S32768x1024 .f32) (b : Fin 2) (t : Fin 16384) (c : Fin 512) :
    r9 guv (ix3 b t c) = guv (ix2 ⟨b.val * 16384 + t.val, by omega⟩ ⟨512 + c.val, by omega⟩) := by
  pointwise [r9, r7]

theorem geluR_at (U : FVec Ideal S2x16384x512 .f32) (b : Fin 2) (t : Fin 16384) (c : Fin 512) :
    geluR U (ix3 b t c) = gelu (U (ix3 b t c)) := by
  unfold gelu
  pointwise [geluR]

theorem normR_at (U : FVec Ideal S2x16384x512 .f32) (vg : FVec Ideal S512 .f32) (b : Fin 2) (t : Fin 16384) (c : Fin 512) :
    normR U vg (ix3 b t c) = rms (fun k => U (ix3 b t k)) (fun k => vg (ix1 k)) c := by
  unfold rms
  pointwise [normR]

theorem trilR_at (ws : FVec Ideal S4x128x128 .f32) (g : Fin 4) (r s : Fin 128) :
    trilR ws (ix3 g r s) = if s.val ≤ r.val then ws (ix3 g r s) else 0 := by
  pointwise [trilR]
  have ha : IntOp.addi (BitVec.ofNat 32 r.val) 0#32 = BitVec.ofNat 32 r.val := BitVec.add_zero _
  have hs := toInt_small (j := s.val) (by have := s.isLt; omega)
  have hr := toInt_small (j := r.val) (by have := r.isLt; omega)
  rw [ha]
  unfold IntOp.cmpi
  dsimp only
  rw [BitVec.sle, hs, hr]
  by_cases h : s.val ≤ r.val
  · simp [h, Scalar.select]
  · simp [h, Scalar.select]

theorem mixR_at (U V : FVec Ideal S2x16384x512 .f32) (W : FVec Ideal S4x128x128 .f32) (bs : FVec Ideal S4x128 .f32)
    (b : Fin 2) (n r : Fin 128) (c : Fin 512) :
    mixR U V W bs (ix3 b ⟨n.val * 128 + r.val, by omega⟩ c) = U (ix3 b ⟨n.val * 128 + r.val, by omega⟩ c)
      * ((∑ s : Fin 128, W (ix3 ⟨c.val / 128, by omega⟩ r s) * V (ix3 b ⟨n.val * 128 + s.val, by omega⟩ c))
        + bs (ix2 ⟨c.val / 128, by omega⟩ r)) := by
  pointwise [mixR]
  congr 2
  exact Finset.sum_congr rfl fun s _ => mul_comm _ _

theorem gateR_at (g : FVec Ideal S32768x3072 .f32) (bg : FVec Ideal S3072 .f32) (b : Fin 2) (t : Fin 16384) (i : Fin 3) (e : Fin 1024) :
    gateR g bg (ix4 b t i e) = Ideal.logistic (g (ix2 ⟨b.val * 16384 + t.val, by omega⟩ ⟨i.val * 1024 + e.val, by omega⟩)
      + bg (ix1 ⟨i.val * 1024 + e.val, by omega⟩)) := by
  unfold Ideal.logistic
  pointwise [gateR]

theorem mergeR_at (A B C : FVec Ideal S2x16384x512 .f32) (G : FVec Ideal S2x16384x3x1024 .f32) (wa wb wc : FVec Ideal S512x1024 .f32)
    (b : Fin 2) (t : Fin 16384) (e : Fin 1024) :
    mergeR A B C G wa wb wc (ix3 b t e) = G (ix4 b t 0 e) * (∑ k, A (ix3 b t k) * wa (ix2 k e))
      + G (ix4 b t 1 e) * (∑ k, B (ix3 b t k) * wb (ix2 k e)) + G (ix4 b t 2 e) * (∑ k, C (ix3 b t k) * wc (ix2 k e)) := by
  pointwise [mergeR]

theorem outR_at (M : FVec Ideal S2x16384x1024 .f32) (x : FVec Ideal S2x16384x1024 .f32) (wo : FVec Ideal S1024x1024 .f32)
    (b : Fin 2) (t : Fin 16384) (e : Fin 1024) :
    outR M x wo (ix2 ⟨b.val * 16384 + t.val, by omega⟩ e) = x (ix3 b t e) + ∑ j, M (ix3 b t j) * wo (ix2 j e) := by
  pointwise [outR]

end Cert.ReferenceIdeal.Mix

end
-- ==== Proof.Mix.RefOut.lean ====
/- The reference's result is the mixer's, for finite queries, keys, bias, sinks and pool inputs. -/
module

public import proofs.«01_k».proof.Proof.Mix.RefAttn
public import proofs.«01_k».proof.Proof.Mix.RefPool
public import proofs.«01_k».proof.Proof.Mix.RefMlp

@[expose] public section

set_option maxRecDepth 16384

noncomputable section

namespace Cert.ReferenceIdeal.Mix

open Idealize.ShloMosaic Idealize.ShloMosaic.TcCoe Idealize.ShloMosaic.Tactic
open Cert.ReferenceIdeal Cert.ReferenceIdeal.Gen
open Cert.Mix
open scoped BigOperators

/-- The first block sees no key of the block before. -/
theorem visBit_first (n r : Fin 128) (s : Fin 256) (h0 : n.val = 0) (hs : s.val < 128) : visBit n r s = 0#1 := by
  have hx : ∀ a : BitVec 1, IntOp.andi a 0#1 = 0#1 := by decide
  have h1 : IntOp.cmpi .eq (BitVec.ofNat 32 n.val) 0#32 = 1#1 := by rw [h0]; decide
  have h2 : IntOp.cmpi .slt (BitVec.ofNat 32 s.val) 128#32 = 1#1 := by
    unfold IntOp.cmpi
    dsimp only
    rw [BitVec.slt, toInt_small (j := s.val) (by omega), show (128#32).toInt = 128 from by decide]
    rw [decide_eq_true (by omega : (s.val : ℤ) < 128)]; rfl
  unfold visBit
  rw [h1, h2]
  exact hx _

theorem bit_cases (a : BitVec 1) : a = 0#1 ∨ a = 1#1 := by revert a; decide

theorem scale_fin : Fin' (Ideal.ofBits .f32 0x3E000000#32) :=
  ⟨1 / 8, by simp [Ideal.ofBits, Ideal.ieee]; rw [← EReal.coe_mul]; norm_num⟩

theorem attn_eq (I : Inp) (q : FVec Ideal S32768x512 .bf16) (kv : FVec Ideal S32768x256 .bf16)
    (rel : FVec Ideal S32x8 .f32) (sink : FVec Ideal S8 .f32)
    (eq : ∀ ρ e, I.q ρ e = q (ix2 ρ e)) (ek : ∀ ρ e, I.kv ρ e = kv (ix2 ρ e))
    (eb : ∀ h r s, I.bias h r s = rel (ix2 (bucketIx r s) h)) (es : ∀ h, I.sink h = sink (ix1 h))
    (fq : ∀ ρ e, Fin' (q (ix2 ρ e))) (fk : ∀ ρ (e : Fin 256), e.val < 128 → Fin' (kv (ix2 ρ e)))
    (fr : ∀ k h, Fin' (rel (ix2 k h))) (fs : ∀ h, Fin' (sink (ix1 h)))
    (L : FVec Ideal S2x128x2x4x128x256 .f32) (hL : L = logitR q kv rel)
    (M : FVec Ideal S2x128x2x4x128x1 .f32) (hM : M = topR (maxR L) sink)
    (E : FVec Ideal S2x128x2x4x128x256 .f32) (hE : E = expR L M)
    (P : FVec Ideal S2x128x2x4x128x256 .f32) (hP : P = probR E (sumR E) M sink)
    (b : Fin 2) (n r : Fin 128) (c : Fin 512) :
    attR P kv (ix3 b ⟨n.val * 128 + r.val, by omega⟩ c) = I.attn b n r c := by
  have hn := n.isLt
  have hσ : sink (ix1 ⟨(⟨c.val / 256, by omega⟩ : Fin 2).val * 4 + (⟨c.val / 64 % 4, by omega⟩ : Fin 4).val, by dsimp only; omega⟩)
      = I.sink ⟨c.val / 64, by omega⟩ := by
    rw [es]; congr 2; apply Fin.ext; dsimp only; omega
  obtain ⟨l, hl0⟩ : ∃ l, l = logit (fun x => I.q (row b n r) ⟨c.val / 64 * 64 + x.val, by omega⟩)
      (fun s x => I.kv (krow b n s) ⟨c.val / 256 * 64 + x.val, by omega⟩) (visBit n r) (I.bias ⟨c.val / 64, by omega⟩ r) := ⟨_, rfl⟩
  have hl : ∀ s, L (ix6 b n ⟨c.val / 256, by omega⟩ ⟨c.val / 64 % 4, by omega⟩ r s) = l s := fun s => by
    rw [hL, logitR_at, hl0]
    unfold logit
    rcases bit_cases (visBit n r s) with hv | hv
    · rw [hv]; rfl
    · congr 1
      dsimp only
      rw [biasR_at, eb]
      congr 1
      · congr 1
        refine Finset.sum_congr rfl fun x _ => ?_
        rw [qR_at, eq, prevT_at, ek]
        congr 1
        · congr 2; apply Fin.ext; dsimp only; omega
        · by_cases hs : s.val < 128
          · have h0 : n.val ≠ 0 := fun h0 => by
              rw [visBit_first n r s h0 hs] at hv; exact absurd hv (by decide)
            rw [dif_pos hs, if_neg h0, r22_at]
            unfold krow row
            rw [if_pos hs]
          · rw [dif_neg hs, r22_at]
            unfold krow row
            rw [if_neg hs]
      · congr 2; apply Fin.ext; dsimp only; omega
  have hm : M (ix6 b n ⟨c.val / 256, by omega⟩ ⟨c.val / 64 % 4, by omega⟩ r 0) = top l (I.sink ⟨c.val / 64, by omega⟩) := by
    rw [hM, topR_at, maxR_at, hσ]
    simp only [hl]
    rfl
  have he : ∀ s, E (ix6 b n ⟨c.val / 256, by omega⟩ ⟨c.val / 64 % 4, by omega⟩ r s)
      = Ideal.exp (l s - top l (I.sink ⟨c.val / 64, by omega⟩)) := fun s => by
    rw [hE, expR_at, hl, hm]
  have hp : ∀ s, P (ix6 b n ⟨c.val / 256, by omega⟩ ⟨c.val / 64 % 4, by omega⟩ r s)
      = Ideal.div (Ideal.exp (l s - top l (I.sink ⟨c.val / 64, by omega⟩))) (den l (I.sink ⟨c.val / 64, by omega⟩)) := fun s => by
    rw [hP, probR_at, sumR_at, hσ, hm]
    simp only [he]
    rfl
  rw [attR_at]
  simp only [hp]
  refine (head_eq l (fun s => I.kv (krow b n s) ⟨128 + (c.val / 256 * 64 + c.val % 64), by omega⟩) _ _ (by rw [es]; exact fs _)
    fun s => ?_).trans ?_
  · rcases bit_cases (visBit n r s) with hv | hv
    · left
      rw [hl0]
      unfold logit
      rw [hv]; rfl
    · right
      constructor
      · rw [hl0]
        unfold logit
        rw [hv]
        refine Fin'.add (Fin'.mul (Fin'.sum _ fun x _ => ?_) scale_fin) (by rw [eb]; exact fr _ _)
        dsimp only
        rw [eq, ek]
        exact (fq _ _).mul (fk _ _ (by dsimp only; omega))
      · rw [prevT_at, ek]
        by_cases hs : s.val < 128
        · have h0 : n.val ≠ 0 := fun h0 => by
            rw [visBit_first n r s h0 hs] at hv; exact absurd hv (by decide)
          rw [dif_pos hs, if_neg h0, r23_at]
          unfold krow row
          rw [if_pos hs]
        · rw [dif_neg hs, r23_at]
          unfold krow row
          rw [if_neg hs]
  · rw [hl0]; rfl

theorem mean_eq (I : Inp) (pz : FVec Ideal S32768x512 .f32) (ez : ∀ ρ e, I.pz ρ e = pz (ix2 ρ e))
    (fz : ∀ ρ e, Fin' (pz (ix2 ρ e))) (b : Fin 2) (n r : Fin 128) (g : Fin 4) (k : Fin 128) :
    meanR (r120 pz) (r121 pz) (ix4 b ⟨n.val * 128 + r.val, by omega⟩ g k)
      = I.poolD b n r (2 ^ (g.val + 1)) ⟨g.val * 128 + k.val, by omega⟩ := by
  rw [meanR_at]
  unfold Inp.poolD
  generalize 2 ^ (g.val + 1) = w
  refine congrArg₂ (· - ·) (congrArg₂ Ideal.div ?_ rfl) ?_
  · have hw := window_sub (fun t : Fin 16384 => r120 pz (ix4 b t g k)) (fun t => by rw [r120_at]; exact fz _ _)
      ⟨n.val * 128 + r.val, by omega⟩ w
    have h2 : (if h : w ≤ n.val * 128 + r.val then r121 pz (ix4 b ⟨n.val * 128 + r.val - w, by omega⟩ g k) else 0)
        = ∑ t : Fin 16384, if t.val + w ≤ n.val * 128 + r.val then r120 pz (ix4 b t g k) else 0 := by
      by_cases h : w ≤ n.val * 128 + r.val
      · rw [dif_pos h, r121_at]
        refine Finset.sum_congr rfl fun t _ => if_congr ?_ rfl rfl
        dsimp only; omega
      · rw [dif_neg h]
        refine (Finset.sum_eq_zero fun t _ => if_neg ?_).symm
        omega
    refine (congrArg₂ (· - ·) (r121_at pz b _ g k) h2).trans (hw.trans ?_)
    refine Finset.sum_congr rfl fun i _ => ?_
    unfold Inp.back
    by_cases h : i.val ≤ n.val * 128 + r.val
    · rw [dif_pos h, if_neg (by omega), r120_at, ez]
      exact congrArg pz (congrArg₂ ix2 (Fin.ext (by dsimp only; omega)) rfl)
    · rw [dif_neg h, if_pos (by omega)]
  · rw [r120_at, ez]
    unfold row
    exact congrArg pz (congrArg₂ ix2 (Fin.ext (by dsimp only; omega)) rfl)

theorem pool_eq (I : Inp) (pz : FVec Ideal S32768x512 .f32) (wp : FVec Ideal S4x128x128 .f32) (ps : FVec Ideal S512 .f32)
    (ez : ∀ ρ e, I.pz ρ e = pz (ix2 ρ e)) (ew : ∀ g k y, I.wp g k y = wp (ix3 g k y)) (ep : ∀ c, I.ps c = ps (ix1 c))
    (fz : ∀ ρ e, Fin' (pz (ix2 ρ e))) (b : Fin 2) (n r : Fin 128) (c : Fin 512) :
    poolR (meanR (r120 pz) (r121 pz)) wp ps (ix3 b ⟨n.val * 128 + r.val, by omega⟩ c) = I.pool b n r c := by
  rw [poolR_at]
  unfold Inp.pool
  rw [ep]
  congr 1
  refine Finset.sum_congr rfl fun k _ => ?_
  rw [mean_eq I pz ez fz, ew]

theorem mlp_eq (I : Inp) (guv : FVec Ideal S32768x1024 .f32) (vg : FVec Ideal S512 .f32) (ws : FVec Ideal S4x128x128 .f32)
    (bs : FVec Ideal S4x128 .f32) (eg : ∀ ρ e, I.guv ρ e = guv (ix2 ρ e)) (ev : ∀ c, I.vg c = vg (ix1 c))
    (ew : ∀ g r s, I.ws g r s = ws (ix3 g r s)) (eb : ∀ g r, I.bs g r = bs (ix2 g r))
    (b : Fin 2) (n r : Fin 128) (c : Fin 512) :
    mixR (geluR (r8 guv)) (normR (geluR (r9 guv)) vg) (trilR ws) bs (ix3 b ⟨n.val * 128 + r.val, by omega⟩ c) = I.mlp b n r c := by
  have hrow : ∀ s : Fin 128, (⟨b.val * 16384 + (⟨n.val * 128 + s.val, by omega⟩ : Fin 16384).val, by dsimp only; omega⟩ : Fin 32768) = row b n s :=
    fun s => Fin.ext (by dsimp only [row]; omega)
  rw [mixR_at, geluR_at, r8_at, hrow]
  unfold Inp.mlp
  rw [eg, eb]
  congr 2
  refine Finset.sum_congr rfl fun s _ => ?_
  rw [trilR_at, normR_at, ew]
  congr 1
  unfold Inp.vrow
  rw [show I.vg = fun k => vg (ix1 k) from funext ev]
  simp only [geluR_at, r9_at, hrow, eg]

theorem gate_eq (I : Inp) (g : FVec Ideal S32768x3072 .f32) (bg : FVec Ideal S3072 .f32)
    (eg : ∀ ρ e, I.g ρ e = g (ix2 ρ e)) (eb : ∀ e, I.bg e = bg (ix1 e)) (b : Fin 2) (n r : Fin 128) (i : Fin 3) (e : Fin 1024) :
    gateR g bg (ix4 b ⟨n.val * 128 + r.val, by omega⟩ i e) = I.gate b n r i e := by
  rw [gateR_at]
  unfold Inp.gate
  rw [eg, eb]
  unfold row
  congr 4; apply Fin.ext; dsimp only; omega

/-- Row by row: with the branches and the gates the mixer's, the result is. -/
theorem out_eq (I : Inp) (x : FVec Ideal S2x16384x1024 .f32) (A B C : FVec Ideal S2x16384x512 .f32) (G : FVec Ideal S2x16384x3x1024 .f32)
    (wa wb wc : FVec Ideal S512x1024 .f32) (wo : FVec Ideal S1024x1024 .f32)
    (ex : ∀ ρ e, I.x ρ e = x (ix3 ⟨ρ.val / 16384, by omega⟩ ⟨ρ.val % 16384, by omega⟩ e))
    (ea : ∀ c e, I.wa c e = wa (ix2 c e)) (eb : ∀ c e, I.wb c e = wb (ix2 c e)) (ec : ∀ c e, I.wc c e = wc (ix2 c e))
    (eo : ∀ c e, I.wo c e = wo (ix2 c e))
    (hA : ∀ b n r c, A (ix3 b ⟨n.val * 128 + r.val, by omega⟩ c) = I.attn b n r c)
    (hB : ∀ b n r c, B (ix3 b ⟨n.val * 128 + r.val, by omega⟩ c) = I.pool b n r c)
    (hC : ∀ b n r c, C (ix3 b ⟨n.val * 128 + r.val, by omega⟩ c) = I.mlp b n r c)
    (hG : ∀ b n r i e, G (ix4 b ⟨n.val * 128 + r.val, by omega⟩ i e) = I.gate b n r i e) :
    outR (mergeR A B C G wa wb wc) x wo = I.arr := by
  funext i
  obtain ⟨ρ, e, rfl⟩ : ∃ (ρ : Fin 32768) (e : Fin 1024), i = ix2 ρ e := ⟨i 0, i 1, by funext a; fin_cases a <;> rfl⟩
  obtain ⟨b, n, r, rfl⟩ : ∃ b n r, ρ = row b n r :=
    ⟨⟨ρ.val / 16384, by omega⟩, ⟨ρ.val / 128 % 128, by omega⟩, ⟨ρ.val % 128, by omega⟩, Fin.ext (by dsimp only [row]; omega)⟩
  have hl : I.arr (ix2 (row b n r) e) = I.out b n r e := by
    unfold Inp.arr
    congr 1
    · apply Fin.ext; dsimp only [row, ix2]; show (_ : ℕ) / 16384 = _; omega
    · apply Fin.ext; show ((b.val * 128 + n.val) * 128 + r.val) / 128 % 128 = _; omega
    · apply Fin.ext; show ((b.val * 128 + n.val) * 128 + r.val) % 128 = _; omega
  have hrow : (row b n r) = (⟨b.val * 16384 + (⟨n.val * 128 + r.val, by omega⟩ : Fin 16384).val, by dsimp only; omega⟩ : Fin 32768) :=
    Fin.ext (by dsimp only [row]; omega)
  rw [hl]
  conv_lhs => rw [hrow]
  rw [outR_at]
  unfold Inp.out
  congr 1
  · rw [ex]
    unfold row
    congr 2 <;> (apply Fin.ext; dsimp only; omega)
  · refine Finset.sum_congr rfl fun j _ => ?_
    rw [mergeR_at, eo]
    unfold Inp.merged
    simp only [hA, hB, hC, hG, ea, eb, ec]

end Cert.ReferenceIdeal.Mix

end
-- ==== Proof.Mix.RefRun.lean ====
/- The reference's run gives the typed operations' term of the arguments. -/
module

public import proofs.«01_k».proof.Proof.Mix.RefOut
public import proofs.«01_k».proof.Proof.Gen.ReferenceIdeal.Run

@[expose] public section

set_option maxRecDepth 16384

noncomputable section

namespace Cert.ReferenceIdeal.Mix

open Idealize.ShloMosaic Idealize.ShloMosaic.TcCoe Idealize.ShloMosaic.Tactic
open Idealize.SL.Sem
open Cert.ReferenceIdeal Cert.ReferenceIdeal.Value Cert.ReferenceIdeal.Gen
open Cert.Mix
open scoped BigOperators

variable (V0 : Valuation τ sig (Elt Ideal))

theorem id22 : (res_main_v22 V0 : FVec Ideal S2x128x128x2x64 .f32) = r22 (V0 (Proc.devRef .tc main_arg2)) := rfl
theorem id23 : (res_main_v23 V0 : FVec Ideal S2x128x128x2x64 .f32) = r23 (V0 (Proc.devRef .tc main_arg2)) := rfl
theorem id42 : (res_main_v42 V0 : IVec S128x256 32) = r42 := rfl
theorem id49 : (res_main_v49 V0 : IVec S128x256 32) = r49 := rfl
theorem id67 : (res_main_v67 V0 : IVec S128x256 32) = r67 := by
  unfold r67
  rw [← id49 V0]
  rfl
theorem id96 : (res_main_v96 V0 : FVec Ideal S2x128x2x4x128x256 .f32) = logitR (V0 (Proc.devRef .tc main_arg1)) (V0 (Proc.devRef .tc main_arg2)) (V0 (Proc.devRef .tc main_arg6)) := by
  unfold logitR maskR biasR ixR prevT qR
  rw [← id67 V0, ← id42 V0, ← id22 V0, show r37 = res_main_v37 V0 from rfl]
  rfl
theorem id98 : (res_main_v98 V0 : FVec Ideal S2x4x1x1 .f32) = r98 (V0 (Proc.devRef .tc main_arg7)) := rfl
theorem id103 : (res_main_v103 V0 : FVec Ideal S2x128x2x4x128x1 .f32) = topR (maxR (res_main_v96 V0)) (V0 (Proc.devRef .tc main_arg7)) := by
  unfold topR maxR
  rw [← id98 V0]
  rfl
theorem id106 : (res_main_v106 V0 : FVec Ideal S2x128x2x4x128x256 .f32) = expR (res_main_v96 V0) (res_main_v103 V0) := rfl
theorem id120 : (res_main_v120 V0 : FVec Ideal S2x16384x4x128 .f32) = r120 (V0 (Proc.devRef .tc main_arg3)) := rfl
theorem id121 : (res_main_v121 V0 : FVec Ideal S2x16384x4x128 .f32) = r121 (V0 (Proc.devRef .tc main_arg3)) := by
  unfold r121
  rw [← id120 V0]
  rfl
theorem id187 : (res_main_v187 V0 : FVec Ideal S2x16384x512 .f32) = poolR (meanR (res_main_v120 V0) (res_main_v121 V0)) (V0 (Proc.devRef .tc main_arg8)) (V0 (Proc.devRef .tc main_arg9)) := by
  unfold poolR meanR meanR0 meanR1 meanR2 meanR3
  rw [show r126 (res_main_v121 V0) = res_main_v126 V0 from rfl, show r139 (res_main_v121 V0) = res_main_v139 V0 from rfl,
    show r152 (res_main_v121 V0) = res_main_v152 V0 from rfl, show r165 (res_main_v121 V0) = res_main_v165 V0 from rfl,
    show r124 = res_main_v124 V0 from rfl]
  rfl
theorem id8 : (res_main_v8 V0 : FVec Ideal S2x16384x512 .f32) = r8 (V0 (Proc.devRef .tc main_arg4)) := rfl
theorem id9 : (res_main_v9 V0 : FVec Ideal S2x16384x512 .f32) = r9 (V0 (Proc.devRef .tc main_arg4)) := rfl
theorem id20 : (res_main_v20 V0 : FVec Ideal S2x16384x3x1024 .f32) = gateR (V0 (Proc.devRef .tc main_arg5)) (V0 (Proc.devRef .tc main_arg17)) := rfl
theorem id214 : (res_main_v214 V0 : FVec Ideal S2x16384x512 .f32) = geluR (res_main_v9 V0) := rfl
theorem id254 : (res_main_v254 V0 : FVec Ideal S2x16384x1024 .f32) = mergeR
    (attR (probR (res_main_v106 V0) (sumR (res_main_v106 V0)) (res_main_v103 V0) (V0 (Proc.devRef .tc main_arg7))) (V0 (Proc.devRef .tc main_arg2)))
    (res_main_v187 V0) (mixR (geluR (res_main_v8 V0)) (normR (res_main_v214 V0) (V0 (Proc.devRef .tc main_arg10))) (trilR (V0 (Proc.devRef .tc main_arg11))) (V0 (Proc.devRef .tc main_arg12)))
    (res_main_v20 V0) (V0 (Proc.devRef .tc main_arg13)) (V0 (Proc.devRef .tc main_arg14)) (V0 (Proc.devRef .tc main_arg15)) := by
  unfold mergeR attR probR sumR mixR normR trilR prevT
  rw [← id98 V0, ← id23 V0]
  rfl

/-- The reference's result term is the mixer's result, when the named arguments are finite. -/
theorem ref_final (fq : ∀ ρ e, Fin' (((V0 (Proc.devRef .tc main_arg1)) : FVec Ideal S32768x512 .bf16) (ix2 ρ e)))
    (fk : ∀ ρ (e : Fin 256), e.val < 128 → Fin' (((V0 (Proc.devRef .tc main_arg2)) : FVec Ideal S32768x256 .bf16) (ix2 ρ e)))
    (fr : ∀ k h, Fin' (((V0 (Proc.devRef .tc main_arg6)) : FVec Ideal S32x8 .f32) (ix2 k h)))
    (fs : ∀ h, Fin' (((V0 (Proc.devRef .tc main_arg7)) : FVec Ideal S8 .f32) (ix1 h)))
    (fz : ∀ ρ e, Fin' (((V0 (Proc.devRef .tc main_arg3)) : FVec Ideal S32768x512 .f32) (ix2 ρ e))) :
    outR (res_main_v254 V0) (V0 (Proc.devRef .tc main_arg0)) (V0 (Proc.devRef .tc main_arg16)) = (mkInp (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))).arr := by
  rw [id254]
  refine out_eq _ _ _ _ _ _ _ _ _ _ (fun _ _ => rfl) (fun _ _ => rfl) (fun _ _ => rfl) (fun _ _ => rfl) (fun _ _ => rfl)
    (fun b n r c => ?_) (fun b n r c => ?_) (fun b n r c => ?_) (fun b n r i e => ?_)
  · exact attn_eq _ (V0 (Proc.devRef .tc main_arg1)) (V0 (Proc.devRef .tc main_arg2)) (V0 (Proc.devRef .tc main_arg6)) (V0 (Proc.devRef .tc main_arg7)) (fun _ _ => rfl) (fun _ _ => rfl) (fun _ _ _ => rfl) (fun _ => rfl) fq fk fr fs
      _ (id96 V0) _ (id103 V0) _ (id106 V0) _ rfl b n r c
  · rw [id187, id120, id121]
    exact pool_eq _ _ _ _ (fun _ _ => rfl) (fun _ _ _ => rfl) (fun _ => rfl) fz b n r c
  · rw [id214, id8, id9]
    exact mlp_eq _ _ _ _ _ (fun _ _ => rfl) (fun _ => rfl) (fun _ _ _ => rfl) (fun _ _ => rfl) b n r c
  · rw [id20]
    exact gate_eq _ _ _ (fun _ _ => rfl) (fun _ => rfl) b n r i e

end Cert.ReferenceIdeal.Mix

end
-- ==== Proof.Mix.Pre.lean ====
/- What the precondition says: the queries, keys, bias, sinks and pool inputs are finite. -/
module

public import proofs.«01_k».proof.Defs
public import proofs.«01_k».proof.Proof.Mix.Rows
public import Idealize.ShloMosaic.Lib.ReduceAll
public import Idealize.ShloMosaic.Lib.Pointwise
public import Idealize.ShloMosaic.Lib.Affine
public import Idealize.ShloMosaic.Lib.Decide

@[expose] public section

noncomputable section

namespace Cert.Mix.Pre

open Idealize.ShloMosaic Idealize.ShloMosaic.Tactic
open Cert.Pre_tame
open Cert.Mix (Fin')

/-- The predicate's shape relations. -/
theorem facts : Cert.Pre_tame.Facts where
  bcast_S_S32768x512 := by decide
  reducesTo_S32768x512_S_d0_1 := by decide
  h_S_ := by decide
  slices_S32768x256_S32768x128_0_0 := by decide
  bcast_S_S32768x128 := by decide
  reducesTo_S32768x128_S_d0_1 := by decide
  bcast_S_S32x8 := by decide
  reducesTo_S32x8_S_d0_1 := by decide
  bcast_S_S8 := by decide
  reducesTo_S8_S_d0 := by decide

theorem andi_one (a b : BitVec 1) : IntOp.andi a b = 1#1 ↔ a = 1#1 ∧ b = 1#1 := by revert a b; decide

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- A magnitude below infinity is a finite number's. -/
theorem fin_of_lt (x y : EReal) (hy : y = ⊤) (h : Ideal.cmp .olt (max x (-x)) y = 1#1) : Fin' x := by
  subst hy
  refine fin_of_ne (fun hx => ?_) (fun hx => ?_) <;> subst hx <;> simp [Ideal.cmp] at h

instance : Subsingleton S_.Idx := ⟨fun a b => funext fun k => k.elim0⟩

attribute [local instance] facts

/-- What the predicate says, array by array. -/
theorem finite (a0 : FVec Ideal S2x16384x1024 .f32) (q : FVec Ideal S32768x512 .bf16) (kv : FVec Ideal S32768x256 .bf16)
    (pz : FVec Ideal S32768x512 .f32) (a4 : FVec Ideal S32768x1024 .f32) (a5 : FVec Ideal S32768x3072 .f32)
    (rel : FVec Ideal S32x8 .f32) (sink : FVec Ideal S8 .f32) (a8 : FVec Ideal S4x128x128 .f32) (a9 a10 : FVec Ideal S512 .f32)
    (a11 : FVec Ideal S4x128x128 .f32) (a12 : FVec Ideal S4x128 .f32) (a13 a14 a15 : FVec Ideal S512x1024 .f32)
    (a16 : FVec Ideal S1024x1024 .f32) (a17 : FVec Ideal S3072 .f32)
    (h : Cert.Pre_tame.fn (F := Ideal) a0 q kv pz a4 a5 rel sink a8 a9 a10 a11 a12 a13 a14 a15 a16 a17 = fun _ => 1#1) :
    (∀ i, Fin' (q i)) ∧ (∀ i : Fin 32768, ∀ e : Fin 256, e.val < 128 → Fin' (kv (ix2 i e))) ∧ (∀ i, Fin' (rel i))
      ∧ (∀ i, Fin' (sink i)) ∧ ∀ i, Fin' (pz i) := by
  have e := congrFun h (fun k => k.elim0)
  simp only [Cert.Pre_tame.fn, Cert.Pre_tame.fn_part1, andi, andi_one] at e
  obtain ⟨⟨⟨⟨h1, h2⟩, h3⟩, h4⟩, h5⟩ := e
  refine ⟨fun i => ?_, fun i e he => ?_, fun i => ?_, fun i => ?_, fun i => ?_⟩
  · exact fin_of_lt _ _ inf16 (Host.reduce_andi_all _ _ _ _ _ h1 i)
  · have h' := Host.reduce_andi_all _ _ _ _ _ h2 (ix2 i ⟨e.val, he⟩)
    refine fin_of_lt _ _ inf16 (Eq.trans ?_ h')
    pointwise
    rfl
  · exact fin_of_lt _ _ inf32 (Host.reduce_andi_all _ _ _ _ _ h3 i)
  · exact fin_of_lt _ _ inf32 (Host.reduce_andi_all _ _ _ _ _ h4 i)
  · exact fin_of_lt _ _ inf32 (Host.reduce_andi_all _ _ _ _ _ h5 i)

end Cert.Mix.Pre

end
-- ==== Proof.Norm.Spec.lean ====
/- The normalised row and its projection, over extended reals and no program. -/
module

public import Idealize.ShloMosaic.PureOps.Ideal
public import Idealize.ShloMosaic.Lib.Pointwise

@[expose] public section

noncomputable section

namespace Cert.Norm

open Idealize.ShloMosaic Idealize.ShloMosaic.TcCoe
open scoped BigOperators

/-- A row of 1024 entries over the root of its mean square, times the gain. -/
def rms (v gain : Fin 1024 → EReal) (k : Fin 1024) : EReal :=
  v k * Ideal.rsqrt (Ideal.div (∑ i, v i * v i) (Ideal.ofBits .f32 0x44800000#32) + Ideal.ofBits .f32 0x358637BD#32) * gain k

/-- The row of token `ρ`, tokens numbered through both sequences. -/
def tok (x : FVec Ideal ⟨3, ![2, 16384, 1024]⟩ .f32) (ρ : Fin 32768) (k : Fin 1024) : EReal :=
  x (ix3 ⟨ρ.val / 16384, by omega⟩ ⟨ρ.val % 16384, by omega⟩ k)

/-- Entry `k` of token `ρ`'s normalised row. -/
def normed (x : FVec Ideal ⟨3, ![2, 16384, 1024]⟩ .f32) (g : FVec Ideal ⟨1, ![1024]⟩ .f32) (ρ : Fin 32768) (k : Fin 1024) : EReal :=
  rms (tok x ρ) (fun i => g (ix1 i)) k

/-- The array of all normalised rows. -/
def normArr (x : FVec Ideal ⟨3, ![2, 16384, 1024]⟩ .f32) (g : FVec Ideal ⟨1, ![1024]⟩ .f32) : FVec Ideal ⟨2, ![32768, 1024]⟩ .f32 :=
  fun i => normed x g (i 0) (i 1)

/-- Column `j` of the projection of token `ρ`'s normalised row. -/
def proj (x : FVec Ideal ⟨3, ![2, 16384, 1024]⟩ .f32) (g : FVec Ideal ⟨1, ![1024]⟩ .f32) (w : FVec Ideal ⟨2, ![1024, 5376]⟩ .f32)
    (ρ : Fin 32768) (j : Fin 5376) : EReal :=
  ∑ k, normed x g ρ k * w (ix2 k j)

/-- The `n` columns of the projection from column `o` on, as an array of any float type. -/
def cols (x : FVec Ideal ⟨3, ![2, 16384, 1024]⟩ .f32) (g : FVec Ideal ⟨1, ![1024]⟩ .f32) (w : FVec Ideal ⟨2, ![1024, 5376]⟩ .f32)
    (o n : ℕ) (h : o + n ≤ 5376) (t : FTy) : FVec Ideal ⟨2, ![32768, n]⟩ t :=
  fun i => proj x g w (i 0) ⟨o + (i 1).val, lt_of_lt_of_le (Nat.add_lt_add_left (i 1).isLt o) h⟩

end Cert.Norm

end
-- ==== Proof.Norm.Kernel.lean ====
/- The last norm's kernel: its result array holds the normalised rows. -/
module

public import proofs.«01_k».proof.Proof.Gen.FinalNormIdeal.Value
public import proofs.«01_k».proof.Proof.Norm.Spec
public import Idealize.ShloMosaic.Lib.Pipeline.ValueKit
public import Idealize.ShloMosaic.Lib.Pointwise

@[expose] public section

set_option maxRecDepth 16384

noncomputable section

namespace Cert.FinalNormIdeal.Norm

open Idealize.ShloMosaic Idealize.ShloMosaic.TcCoe Idealize.ShloMosaic.Tactic Idealize.SL.Sem
open Idealize.ShloMosaic.Pipeline (Dat Cfg Window)
open Cert.FinalNormIdeal Cert.FinalNormIdeal.Gen Cert.FinalNormIdeal.Value
open Cert.Norm (rms tok normed normArr)

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := fun _ => rfl
theorem idx2 : ∀ t : Fin cfg0.N, win0_2.index t = ![t.val, 0] := (by decide +kernel : ∀ t : Fin grid0.N, win0_2.index t = ![t.val, 0])

/-- The row of the whole array that row `r` of point `t`'s block is. -/
def rowOf (t : Fin cfg0.N) (r : Fin 512) : Fin 32768 := ⟨t.val * 512 + r.val, by have : t.val < 64 := t.isLt; omega⟩

theorem pay_at (x : FVec Ideal S512x1024 .f32) (g : FVec Ideal S1x1024 .f32) (r : Fin 512) (k : Fin 1024) :
    k0_pay1 (F := Ideal) x g (ix2 r k) = rms (fun i => x (ix2 r i)) (fun i => g (ix2 0 i)) k := by
  unfold rms
  pointwise [k0_pay1]

theorem V0 : (V m c main_v0 : _) = shapeCast (s := S2x16384x1024) S32768x1024 (m (c, Proc.tc.devRef main_arg0) : FVec Ideal S2x16384x1024 .f32) shapeCasts_S2x16384x1024_S32768x1024 := by
  unfold V
  simp only [List.flatten_cons, List.flatten_nil, hostOps0, List.cons_append, List.nil_append, List.append_nil]
  after_results
  rfl

theorem V1 : (V m c main_v1 : _) = broadcastInDim S1x1024 ![1] bcast_S1024_S1x1024_1 (m (c, Proc.tc.devRef main_arg1) : FVec Ideal S1024 .f32) := by
  unfold V
  simp only [List.flatten_cons, List.flatten_nil, hostOps0, List.cons_append, List.nil_append, List.append_nil]
  after_results

theorem blk0 (t : Fin cfg0.N) (r : Fin 512) (k : Fin 1024) :
    (iblk m c 0 t (ix2 r k) : EReal) = tok (m (c, Proc.tc.devRef main_arg0)) (rowOf t r) k := by
  unfold tok
  blk_simp [iblk]
  rw [V0]
  pointwise
  blk_ext [idx0 t, rowOf]

theorem blk1 (t : Fin cfg0.N) (k : Fin 1024) :
    (iblk m c 1 t (ix2 0 k) : EReal) = m (c, Proc.tc.devRef main_arg1) (ix1 k) := by
  blk_simp [iblk]
  rw [V1]
  pointwise
  blk_ext [idx1 t]

theorem final : (dats m 0 c).arrAt 2 cfg0.N
    = normArr (m (c, Proc.tc.devRef main_arg0)) (m (c, Proc.tc.devRef main_arg1)) := by
  refine (dats m 0 c).arrAt_eq_of_covers 2 _ (by decide +kernel) fun t _ y => ?_
  obtain ⟨r, k, rfl⟩ : ∃ (r : Fin 512) (k : Fin 1024), y = ix2 r k := ⟨y 0, y 1, by funext a; fin_cases a <;> rfl⟩
  blk_simp
  rw [after0_2]
  frame_out
  refine (pay_at _ _ r k).trans ?_
  simp only [blk0, blk1]
  have h0 : ((((View.whole main_v2).slice (win0_2.rect t)).emb (ix2 r k)) 0) = rowOf t r := by
    refine Fin.ext ?_
    show win0_2.index t 0 * 512 + 1 * r.val = t.val * 512 + r.val
    rw [idx2 t]
    show t.val * 512 + 1 * r.val = _
    omega
  have h1 : (((View.whole main_v2).slice (win0_2.rect t)).emb (ix2 r k)) 1 = k := by
    refine Fin.ext ?_
    show win0_2.index t 1 * 1024 + 1 * k.val = _
    rw [idx2 t]
    show 0 * 1024 + 1 * k.val = _
    omega
  unfold normArr normed
  rw [h0, h1]

end Cert.FinalNormIdeal.Norm

end
-- ==== Proof.Norm.Ref.lean ====
/- The reference's norm: its operations at a token and column, and its result array. -/
module

public import proofs.«01_k».proof.Proof.Gen.FinalNormReferenceIdeal
public import proofs.«01_k».proof.Proof.Norm.Spec
public import Idealize.ShloMosaic.Lib.Pipeline.ValueKit

@[expose] public section

set_option maxRecDepth 16384

noncomputable section

namespace Cert.FinalNormReferenceIdeal.Norm

open Idealize.ShloMosaic Idealize.ShloMosaic.TcCoe Idealize.ShloMosaic.Tactic
open Cert.FinalNormReferenceIdeal Cert.FinalNormReferenceIdeal.Gen
open Cert.Norm (rms tok normed normArr)

/-- One over the root of each token's mean square plus epsilon. -/
def scaleH (x : FVec Ideal S2x16384x1024 .f32) : FVec Ideal S2x16384x1 .f32 :=
  Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))

/-- The normalised rows before the tokens of both sequences are numbered through. -/
def normH (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (scaleH x))) (broadcastInDim S2x16384x1024 ![0, 1, 2] bcast_S1x1x1024_S2x16384x1024_0_1_2 (broadcastInDim S1x1x1024 ![2] bcast_S1024_S1x1x1024_2 g))

theorem normH_at (x : FVec Ideal S2x16384x1024 .f32) (g : FVec Ideal S1024 .f32) (b : Fin 2) (n : Fin 16384) (k : Fin 1024) :
    normH x g (ix3 b n k) = rms (fun i => x (ix3 b n i)) (fun i => g (ix1 i)) k := by
  unfold rms
  pointwise [normH, scaleH]

/-- The reference's result is the array of normalised rows. -/
theorem ref_final (x : FVec Ideal S2x16384x1024 .f32) (g : FVec Ideal S1024 .f32) :
    shapeCast S32768x1024 (normH x g) shapeCasts_S2x16384x1024_S32768x1024 = normArr x g := by
  funext i
  obtain ⟨ρ, k, rfl⟩ : ∃ (ρ : Fin 32768) (k : Fin 1024), i = ix2 ρ k := ⟨i 0, i 1, by funext a; fin_cases a <;> rfl⟩
  show _ = normed x g ρ k
  have h : shapeCast S32768x1024 (normH x g) shapeCasts_S2x16384x1024_S32768x1024 (ix2 ρ k)
      = normH x g (ix3 ⟨ρ.val / 16384, by omega⟩ ⟨ρ.val % 16384, by omega⟩ k) := by
    pointwise
    blk_ext []
  rw [h, normH_at]
  rfl

end Cert.FinalNormReferenceIdeal.Norm

end
-- ==== Proof.Norm.Frame.lean ====
/- The last norm at machine floats: its program is the idealized one's text, so its frame is that program's. -/
module

public import proofs.«01_k».proof.Defs
public import proofs.«01_k».proof.Proof.Gen.FinalNorm
public import proofs.«01_k».proof.Proof.Gen.FinalNormIdeal.Frame

@[expose] public section

noncomputable section

namespace Cert.FinalNorm.Norm

open Idealize.ShloMosaic Idealize.ShloMosaic.TcCoe Idealize.SL.Sem

/-- Both programs' kernels are the same function of their label. -/
theorem bodies_eq : Cert.FinalNorm.defs₀ (F := Bits) = Cert.FinalNormIdeal.defs₀ (F := Bits) := by
  unfold Cert.FinalNorm.defs₀ Cert.FinalNormIdeal.defs₀
  refine congrArg Defs.onTc (funext fun l => funext fun x => ?_)
  match l, x with
  | 0, (t, s) => exact rfl

/-- Both programs' body tables are equal. -/
theorem defs_eq : Cert.FinalNorm.defs (F := Bits) = Cert.FinalNormIdeal.defs (F := Bits) := by
  unfold Cert.FinalNorm.defs Cert.FinalNormIdeal.defs
  rw [bodies_eq]
  rfl

/-- The frame at machine floats, from the one run over any float values. -/
theorem frame : Cert.quiescent_FinalNorm (hFinalNorm := Cert.FinalNorm.Gen.facts) := fun m ρ _ => by
  rw [defs_eq]
  exact Cert.FinalNormIdeal.Gen.frame (F := Bits) m ρ

end Cert.FinalNorm.Norm

end
-- ==== Proof.Proj.Frame.lean ====
/- The input projection at machine floats: its program is the idealized one's text, so its frame is that program's. -/
module

public import proofs.«01_k».proof.Defs
public import proofs.«01_k».proof.Proof.Gen.InProj
public import proofs.«01_k».proof.Proof.Gen.InProjIdeal.Frame

@[expose] public section

noncomputable section

namespace Cert.InProj.Proj

open Idealize.ShloMosaic Idealize.ShloMosaic.TcCoe Idealize.SL.Sem

/-- Both programs' kernels are the same function of their label. -/
theorem bodies_eq : Cert.InProj.defs₀ (F := Bits) = Cert.InProjIdeal.defs₀ (F := Bits) := by
  unfold Cert.InProj.defs₀ Cert.InProjIdeal.defs₀
  refine congrArg Defs.onTc (funext fun l => funext fun x => ?_)
  match l, x with
  | 0, (t, s) => exact rfl

/-- Both programs' body tables are equal. -/
theorem defs_eq : Cert.InProj.defs (F := Bits) = Cert.InProjIdeal.defs (F := Bits) := by
  unfold Cert.InProj.defs Cert.InProjIdeal.defs
  rw [bodies_eq]
  rfl

/-- The frame at machine floats, from the one run over any float values. -/
theorem frame : Cert.quiescent_InProj (hInProj := Cert.InProj.Gen.facts) := fun m ρ _ => by
  rw [defs_eq]
  exact Cert.InProjIdeal.Gen.frame (F := Bits) m ρ

end Cert.InProj.Proj

end
-- ==== Proof.Proj.Kernel.lean ====
/- The input projection's kernel: its five result arrays hold column ranges of the projection. -/
module

public import proofs.«01_k».proof.Proof.Gen.InProjIdeal.Value
public import proofs.«01_k».proof.Proof.Norm.Spec
public import Idealize.ShloMosaic.Lib.Pipeline.ValueKit
public import Idealize.ShloMosaic.Lib.Pointwise

@[expose] public section

set_option maxRecDepth 16384

noncomputable section

namespace Cert.InProjIdeal.Proj

open Idealize.ShloMosaic Idealize.ShloMosaic.TcCoe Idealize.ShloMosaic.Tactic Idealize.SL.Sem
open Idealize.ShloMosaic.Pipeline (Dat Cfg Window)
open Cert.InProjIdeal Cert.InProjIdeal.Gen Cert.InProjIdeal.Value
open Cert.Norm (rms tok normed proj cols)
open scoped BigOperators

/-! ## The body's payloads over plain arrays -/

theorem pay3_at (x : FVec Ideal S256x1024 .f32) (g : FVec Ideal S1x1024 .f32) (r : Fin 256) (k : Fin 1024) :
    k0_pay3 (F := Ideal) x g (ix2 r k) = rms (fun i => x (ix2 r i)) (fun i => g (ix2 0 i)) k := by
  unfold rms
  pointwise [k0_pay3]

theorem pay4_at (x : FVec Ideal S256x1024 .f32) (g : FVec Ideal S1x1024 .f32) (w : FVec Ideal S1024x512 .bf16) (r : Fin 256) (j : Fin 512) :
    k0_pay4 (F := Ideal) x g w (ix2 r j) = ∑ k, k0_pay3 (F := Ideal) x g (ix2 r k) * w (ix2 k j) := by
  unfold k0_pay4
  generalize k0_pay3 (F := Ideal) x g = y
  pointwise

theorem pay5_at (x : FVec Ideal S256x1024 .f32) (g : FVec Ideal S1x1024 .f32) (w : FVec Ideal S1024x256 .bf16) (r : Fin 256) (j : Fin 256) :
    k0_pay5 (F := Ideal) x g w (ix2 r j) = ∑ k, k0_pay3 (F := Ideal) x g (ix2 r k) * w (ix2 k j) := by
  unfold k0_pay5
  generalize k0_pay3 (F := Ideal) x g = y
  pointwise

theorem pay6_at (x : FVec Ideal S256x1024 .f32) (g : FVec Ideal S1x1024 .f32) (w : FVec Ideal S1024x512 .bf16) (r : Fin 256) (j : Fin 512) :
    k0_pay6 (F := Ideal) x g w (ix2 r j) = ∑ k, k0_pay3 (F := Ideal) x g (ix2 r k) * w (ix2 k j) := by
  unfold k0_pay6
  generalize k0_pay3 (F := Ideal) x g = y
  pointwise

theorem pay1_at (y : FVec Ideal S256x1024 .bf16) (w : FVec Ideal S1024x1024 .bf16) (r : Fin 256) (j : Fin 1024) :
    k0_pay1 (F := Ideal) y w (ix2 r j) = ∑ k, y (ix2 r k) * w (ix2 k j) := by
  pointwise [k0_pay1]

theorem pay2_at (y : FVec Ideal S256x1024 .bf16) (w : FVec Ideal S1024x3072 .bf16) (r : Fin 256) (j : Fin 3072) :
    k0_pay2 (F := Ideal) y w (ix2 r j) = ∑ k, y (ix2 r k) * w (ix2 k j) := by
  pointwise [k0_pay2]

/-! ## The blocks the body reads -/

variable (m : (ℓ : Loc nD τ sig) → Buf (Elt Ideal) ℓ) (c : Dev nD)

/-- The row of the whole array that row `r` of point `t`'s block is. -/
def rowOf (t : Fin cfg0.N) (r : Fin 256) : Fin 32768 := ⟨t.val * 256 + r.val, by have : t.val < 128 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := fun _ => rfl
theorem idx2 : ∀ t : Fin cfg0.N, win0_2.index t = ![0, 0] := fun _ => rfl
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem V0 : (V m c main_v0 : _) = shapeCast (s := S2x16384x1024) S32768x1024 (m (c, Proc.tc.devRef main_arg0) : FVec Ideal S2x16384x1024 .f32) shapeCasts_S2x16384x1024_S32768x1024 := by
  unfold V
  simp only [List.flatten_cons, List.flatten_nil, hostOps0, List.cons_append, List.nil_append, List.append_nil]
  after_results
  rfl

theorem V1 : (V m c main_v1 : _) = broadcastInDim S1x1024 ![1] bcast_S1024_S1x1024_1 (m (c, Proc.tc.devRef main_arg1) : FVec Ideal S1024 .f32) := by
  unfold V
  simp only [List.flatten_cons, List.flatten_nil, hostOps0, List.cons_append, List.nil_append, List.append_nil]
  after_results

theorem V2 : (V m c main_v2 : FVec Ideal S1024x5376 .bf16) = truncf (F := Ideal) .bf16 (m (c, Proc.tc.devRef main_arg2) : FVec Ideal S1024x5376 .f32) bitsLt_bf16_f32 := by
  unfold V
  simp only [List.flatten_cons, List.flatten_nil, hostOps0, List.cons_append, List.nil_append, List.append_nil]
  after_results

theorem blk0 (t : Fin cfg0.N) (r : Fin 256) (k : Fin 1024) :
    (iblk m c 0 t (ix2 r k) : EReal) = tok (m (c, Proc.tc.devRef main_arg0)) (rowOf t r) k := by
  unfold tok
  blk_simp [iblk]
  rw [V0]
  pointwise
  blk_ext [idx0 t, rowOf]

theorem blk1 (t : Fin cfg0.N) (k : Fin 1024) :
    (iblk m c 1 t (ix2 0 k) : EReal) = m (c, Proc.tc.devRef main_arg1) (ix1 k) := by
  blk_simp [iblk]
  rw [V1]
  pointwise
  blk_ext [idx1 t]

theorem blk2 (t : Fin cfg0.N) (k : Fin 1024) (j : Fin 5376) :
    (iblk m c 2 t (ix2 k j) : EReal) = m (c, Proc.tc.devRef main_arg2) (ix2 k j) := by
  blk_simp [iblk]
  rw [V2]
  pointwise
  blk_ext [idx2 t]

/-- The normalised block at a point is the normalised rows it holds. -/
theorem norm_blk (t : Fin cfg0.N) (r : Fin 256) (k : Fin 1024) :
    k0_pay3 (F := Ideal) (iblk m c 0 t) (iblk m c 1 t) (ix2 r k)
      = normed (m (c, Proc.tc.devRef main_arg0)) (m (c, Proc.tc.devRef main_arg1)) (rowOf t r) k := by
  refine (pay3_at _ _ r k).trans ?_
  simp only [blk0, blk1]
  rfl

/-- A sum over the block's normalised row and one column of the weight's block is an entry of those columns of the projection. -/
theorem entry (t : Fin cfg0.N) (r : Fin 256) (o n : ℕ) (h : o + n ≤ 5376) (ty : FTy) (j : Fin n) (v : Fin 1024 → EReal)
    (i : (⟨2, ![32768, n]⟩ : Shape).Idx) (h0 : i 0 = rowOf t r) (h1 : i 1 = j)
    (hv : ∀ k, v k = iblk m c 2 t (ix2 k ⟨o + j.val, by omega⟩)) :
    (∑ k, k0_pay3 (F := Ideal) (iblk m c 0 t) (iblk m c 1 t) (ix2 r k) * v k : EReal)
      = cols (m (c, Proc.tc.devRef main_arg0)) (m (c, Proc.tc.devRef main_arg1)) (m (c, Proc.tc.devRef main_arg2)) o n h ty i := by
  obtain rfl : i = ix2 (rowOf t r) j := funext fun a => by fin_cases a <;> assumption
  show _ = ∑ k, normed (m (c, Proc.tc.devRef main_arg0)) (m (c, Proc.tc.devRef main_arg1)) (rowOf t r) k
    * (m (c, Proc.tc.devRef main_arg2) (ix2 k ⟨o + j.val, by omega⟩) : EReal)
  refine Finset.sum_congr rfl fun k _ => ?_
  exact congrArg₂ (· * ·) (norm_blk m c t r k) ((hv k).trans (blk2 m c t k _))

/-- The normalised block the last two products share is the first three's. -/
theorem pay7_eq (x : FVec Ideal S256x1024 .f32) (g : FVec Ideal S1x1024 .f32) (w : FVec Ideal S1024x5376 .bf16) (r : Fin 256) (k : Fin 1024) :
    k0_pay7 (F := Ideal) x g w (ix2 r k) = k0_pay3 (F := Ideal) x g (ix2 r k) := by
  unfold k0_pay7
  frame_out

/-! ## The result arrays -/

theorem final3 : (dats m 0 c).arrAt 3 cfg0.N
    = cols (m (c, Proc.tc.devRef main_arg0)) (m (c, Proc.tc.devRef main_arg1)) (m (c, Proc.tc.devRef main_arg2)) 0 512 (by omega) .bf16 := by
  refine (dats m 0 c).arrAt_eq_of_covers 3 _ (by decide +kernel) fun t _ y => ?_
  obtain ⟨r, j, rfl⟩ : ∃ (r : Fin 256) (j : Fin 512), y = ix2 r j := ⟨y 0, y 1, by funext a; fin_cases a <;> rfl⟩
  blk_simp
  rw [after0_3]
  frame_out
  refine (pay4_at _ _ _ r j).trans ?_
  refine entry m c t r 0 512 (by omega) .bf16 j _ _ ?_ ?_ fun k => ?_
  · refine Fin.ext ?_
    show win0_3.index t 0 * 256 + 1 * r.val = t.val * 256 + r.val
    rw [idx3 t]
    show t.val * 256 + 1 * r.val = _
    omega
  · refine Fin.ext ?_
    show win0_3.index t 1 * 512 + 1 * j.val = _
    rw [idx3 t]
    show 0 * 512 + 1 * j.val = _
    omega
  · refine congrArg (iblk m c 2 t) (funext fun a => Fin.ext ?_)
    fin_cases a
    · show 0 + 1 * k.val = k.val
      omega
    · show 0 + 1 * j.val = 0 + j.val
      omega

theorem final4 : (dats m 0 c).arrAt 4 cfg0.N
    = cols (m (c, Proc.tc.devRef main_arg0)) (m (c, Proc.tc.devRef main_arg1)) (m (c, Proc.tc.devRef main_arg2)) 512 256 (by omega) .bf16 := by
  refine (dats m 0 c).arrAt_eq_of_covers 4 _ (by decide +kernel) fun t _ y => ?_
  obtain ⟨r, j, rfl⟩ : ∃ (r : Fin 256) (j : Fin 256), y = ix2 r j := ⟨y 0, y 1, by funext a; fin_cases a <;> rfl⟩
  blk_simp
  rw [after0_4]
  frame_out
  refine (pay5_at _ _ _ r j).trans ?_
  refine entry m c t r 512 256 (by omega) .bf16 j _ _ ?_ ?_ fun k => ?_
  · refine Fin.ext ?_
    show win0_4.index t 0 * 256 + 1 * r.val = t.val * 256 + r.val
    rw [idx4 t]
    show t.val * 256 + 1 * r.val = _
    omega
  · refine Fin.ext ?_
    show win0_4.index t 1 * 256 + 1 * j.val = _
    rw [idx4 t]
    show 0 * 256 + 1 * j.val = _
    omega
  · refine congrArg (iblk m c 2 t) (funext fun a => Fin.ext ?_)
    fin_cases a
    · show 0 + 1 * k.val = k.val
      omega
    · show 512 + 1 * j.val = 512 + j.val
      omega

theorem final5 : (dats m 0 c).arrAt 5 cfg0.N
    = cols (m (c, Proc.tc.devRef main_arg0)) (m (c, Proc.tc.devRef main_arg1)) (m (c, Proc.tc.devRef main_arg2)) 768 512 (by omega) .f32 := by
  refine (dats m 0 c).arrAt_eq_of_covers 5 _ (by decide +kernel) fun t _ y => ?_
  obtain ⟨r, j, rfl⟩ : ∃ (r : Fin 256) (j : Fin 512), y = ix2 r j := ⟨y 0, y 1, by funext a; fin_cases a <;> rfl⟩
  blk_simp
  rw [after0_5]
  frame_out
  refine (pay6_at _ _ _ r j).trans ?_
  refine entry m c t r 768 512 (by omega) .f32 j _ _ ?_ ?_ fun k => ?_
  · refine Fin.ext ?_
    show win0_5.index t 0 * 256 + 1 * r.val = t.val * 256 + r.val
    rw [idx5 t]
    show t.val * 256 + 1 * r.val = _
    omega
  · refine Fin.ext ?_
    show win0_5.index t 1 * 512 + 1 * j.val = _
    rw [idx5 t]
    show 0 * 512 + 1 * j.val = _
    omega
  · refine congrArg (iblk m c 2 t) (funext fun a => Fin.ext ?_)
    fin_cases a
    · show 0 + 1 * k.val = k.val
      omega
    · show 768 + 1 * j.val = 768 + j.val
      omega

theorem final6 : (dats m 0 c).arrAt 6 cfg0.N
    = cols (m (c, Proc.tc.devRef main_arg0)) (m (c, Proc.tc.devRef main_arg1)) (m (c, Proc.tc.devRef main_arg2)) 1280 1024 (by omega) .f32 := by
  refine (dats m 0 c).arrAt_eq_of_covers 6 _ (by decide +kernel) fun t _ y => ?_
  obtain ⟨r, j, rfl⟩ : ∃ (r : Fin 256) (j : Fin 1024), y = ix2 r j := ⟨y 0, y 1, by funext a; fin_cases a <;> rfl⟩
  blk_simp
  rw [after0_6]
  frame_out
  refine (pay1_at _ _ r j).trans ?_
  simp only [pay7_eq]
  refine entry m c t r 1280 1024 (by omega) .f32 j _ _ ?_ ?_ fun k => ?_
  · refine Fin.ext ?_
    show win0_6.index t 0 * 256 + 1 * r.val = t.val * 256 + r.val
    rw [idx6 t]
    show t.val * 256 + 1 * r.val = _
    omega
  · refine Fin.ext ?_
    show win0_6.index t 1 * 1024 + 1 * j.val = _
    rw [idx6 t]
    show 0 * 1024 + 1 * j.val = _
    omega
  · refine congrArg (iblk m c 2 t) (funext fun a => Fin.ext ?_)
    fin_cases a
    · show 0 + 1 * k.val = k.val
      omega
    · show 1280 + 1 * j.val = 1280 + j.val
      omega

theorem final7 : (dats m 0 c).arrAt 7 cfg0.N
    = cols (m (c, Proc.tc.devRef main_arg0)) (m (c, Proc.tc.devRef main_arg1)) (m (c, Proc.tc.devRef main_arg2)) 2304 3072 (by omega) .f32 := by
  refine (dats m 0 c).arrAt_eq_of_covers 7 _ (by decide +kernel) fun t _ y => ?_
  obtain ⟨r, j, rfl⟩ : ∃ (r : Fin 256) (j : Fin 3072), y = ix2 r j := ⟨y 0, y 1, by funext a; fin_cases a <;> rfl⟩
  blk_simp
  rw [after0_7]
  frame_out
  refine (pay2_at _ _ r j).trans ?_
  simp only [pay7_eq]
  refine entry m c t r 2304 3072 (by omega) .f32 j _ _ ?_ ?_ fun k => ?_
  · refine Fin.ext ?_
    show win0_7.index t 0 * 256 + 1 * r.val = t.val * 256 + r.val
    rw [idx7 t]
    show t.val * 256 + 1 * r.val = _
    omega
  · refine Fin.ext ?_
    show win0_7.index t 1 * 3072 + 1 * j.val = _
    rw [idx7 t]
    show 0 * 3072 + 1 * j.val = _
    omega
  · refine congrArg (iblk m c 2 t) (funext fun a => Fin.ext ?_)
    fin_cases a
    · show 0 + 1 * k.val = k.val
      omega
    · show 2304 + 1 * j.val = 2304 + j.val
      omega

end Cert.InProjIdeal.Proj

end
-- ==== Proof.Proj.Ref.lean ====
/- The reference's input projection: its five results are column ranges of one product. -/
module

public import proofs.«01_k».proof.Proof.Gen.InProjReferenceIdeal
public import proofs.«01_k».proof.Proof.Norm.Ref
public import Idealize.ShloMosaic.Lib.Pointwise

@[expose] public section

set_option maxRecDepth 16384

noncomputable section

namespace Cert.InProjReferenceIdeal.Proj

open Idealize.ShloMosaic Idealize.ShloMosaic.TcCoe Idealize.ShloMosaic.Tactic
open Cert.InProjReferenceIdeal Cert.InProjReferenceIdeal.Gen
open Cert.Norm (rms tok normed proj cols)
open Cert.FinalNormReferenceIdeal.Norm (normH normH_at)
open scoped BigOperators

/-- The whole projection of all tokens. -/
def projH (x : FVec Ideal S2x16384x1024 .f32) (g : FVec Ideal S1024 .f32) (w : FVec Ideal S1024x5376 .f32) : FVec Ideal S32768x5376 .f32 :=
  shapeCast S32768x5376 (Host.dotGeneral dot_S2x16384x1024_S1024x5376_S2x16384x5376_2_0_01_1_n_n none (normH x g) w) shapeCasts_S2x16384x5376_S32768x5376

variable (x : FVec Ideal S2x16384x1024 .f32) (g : FVec Ideal S1024 .f32) (w : FVec Ideal S1024x5376 .f32)

theorem dot_at (y : FVec Ideal S2x16384x1024 .f32) (b : Fin 2) (n : Fin 16384) (j : Fin 5376) :
    (Host.dotGeneral dot_S2x16384x1024_S1024x5376_S2x16384x5376_2_0_01_1_n_n none y w : FVec Ideal S2x16384x5376 .f32) (ix3 b n j)
      = ∑ k, y (ix3 b n k) * w (ix2 k j) := by
  pointwise

theorem projH_at (ρ : Fin 32768) (j : Fin 5376) : projH x g w (ix2 ρ j) = proj x g w ρ j := by
  have h : projH x g w (ix2 ρ j)
      = (Host.dotGeneral dot_S2x16384x1024_S1024x5376_S2x16384x5376_2_0_01_1_n_n none (normH x g) w : FVec Ideal S2x16384x5376 .f32)
          (ix3 ⟨ρ.val / 16384, by omega⟩ ⟨ρ.val % 16384, by omega⟩ j) := by
    unfold projH
    generalize (Host.dotGeneral dot_S2x16384x1024_S1024x5376_S2x16384x5376_2_0_01_1_n_n none (normH x g) w : FVec Ideal S2x16384x5376 .f32) = y
    pointwise
    blk_ext []
  rw [h, dot_at]
  unfold proj
  refine Finset.sum_congr rfl fun k _ => ?_
  rw [normH_at]
  rfl

/-- A slice of the projection's columns is those columns. -/
theorem cut (n o : ℕ) (h : o + n ≤ 5376) (hs : S32768x5376.Slices ![0, o] ⟨2, ![32768, n]⟩) :
    (extractStridedSlice ⟨2, ![32768, n]⟩ ![0, o] (projH x g w) hs : FVec Ideal ⟨2, ![32768, n]⟩ .f32) = cols x g w o n h .f32 := by
  funext i
  obtain ⟨ρ, k, rfl⟩ : ∃ (ρ : Fin 32768) (k : Fin n), i = ix2 ρ k := ⟨i 0, i 1, by funext a; fin_cases a <;> rfl⟩
  refine Eq.trans ?_ (projH_at x g w ρ ⟨o + k.val, by omega⟩)
  generalize projH x g w = y
  show y _ = y _
  refine congrArg y (funext fun a => Fin.ext ?_)
  fin_cases a
  · show 0 + ρ.val = ρ.val
    omega
  · rfl

/-- A slice of the projection's columns, narrowed: over the reals a change of format keeps the values. -/
theorem cut_narrow (n o : ℕ) (h : o + n ≤ 5376) (hs : S32768x5376.Slices ![0, o] ⟨2, ![32768, n]⟩) :
    (truncf .bf16 (extractStridedSlice ⟨2, ![32768, n]⟩ ![0, o] (projH x g w) hs : FVec Ideal ⟨2, ![32768, n]⟩ .f32) bitsLt_bf16_f32 : FVec Ideal ⟨2, ![32768, n]⟩ .bf16)
      = cols x g w o n h .bf16 :=
  funext fun i => congrFun (cut x g w n o h hs) i

end Cert.InProjReferenceIdeal.Proj

end
-- ==== Proof.lean ====
module

public import proofs.«01_k».proof.Defs
public import proofs.«01_k».proof.Proof.Run.BitsFrame
public import proofs.«01_k».proof.Proof.Run.IdealFrame
public import proofs.«01_k».proof.Proof.Run.IdealValue
public import proofs.«01_k».proof.Proof.Mix.Out
public import proofs.«01_k».proof.Proof.Mix.RefRun
public import proofs.«01_k».proof.Proof.Mix.Pre
public import proofs.«01_k».proof.Proof.Gen.InProj
public import proofs.«01_k».proof.Proof.Gen.InProjIdeal.Value
public import proofs.«01_k».proof.Proof.Gen.InProjReferenceIdeal.Run
public import proofs.«01_k».proof.Proof.Gen.FinalNorm
public import proofs.«01_k».proof.Proof.Gen.FinalNormIdeal.Value
public import proofs.«01_k».proof.Proof.Gen.FinalNormReferenceIdeal.Run
public import proofs.«01_k».proof.Proof.Norm.Kernel
public import proofs.«01_k».proof.Proof.Norm.Ref
public import proofs.«01_k».proof.Proof.Norm.Frame
public import proofs.«01_k».proof.Proof.Proj.Frame
public import proofs.«01_k».proof.Proof.Proj.Kernel
public import proofs.«01_k».proof.Proof.Proj.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem value : Cert.algebraic_KernelIdeal_ReferenceIdeal_pre_tame (hKernelIdeal := Cert.KernelIdeal.Gen.facts)
    (hReferenceIdeal := Cert.ReferenceIdeal.Gen.facts) (hPre_tame := Cert.Mix.Pre.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨fq, fk, fr, fs, fz⟩ := Cert.Mix.Pre.finite _ _ _ _ _ _ _ _ _ _ _ _ _ _ _ _ _ _ (hpre c)
  obtain ⟨e0, e1, e2, e3, e4, e5, e6, e7, e8, e9, e10, e11, e12, e13, e14, e15, e16, e17⟩ := hagree c
  rw [← e1] at fq
  rw [← e2] at fk
  rw [← e3] at fz
  rw [← e6] at fr
  rw [← e7] at fs
  refine (Cert.ReferenceIdeal.Mix.ref_final (StableHlo.launchContents m' c) (fun a b => fq (ix2 a b)) fk (fun a b => fr (ix2 a b))
    (fun a => fs (ix1 a)) (fun a b => fz (ix2 a b))).trans ?_
  refine Eq.trans ?_ (Cert.KernelIdeal.Mix.final m c).symm
  show (Cert.Mix.mkInp (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))).arr = _
  rw [e0, e1, e2, e3, e4, e5, e6, e7, e8, e9, e10, e11, e12, e13, e14, e15, e16, e17]
  rfl

/-! ## The input projection -/

theorem frame_in_ref : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2,
      Idealize.ShloMosaic.sem_eq_zero_of_no_sems (by decide) r.2⟩)
    (Cert.InProjReferenceIdeal.Value.run (F := Ideal) m ρ)

theorem value_in : Cert.algebraic_InProjIdeal_InProjReferenceIdeal (hInProjIdeal := Cert.InProjIdeal.Gen.facts)
    (hInProjReferenceIdeal := Cert.InProjReferenceIdeal.Gen.facts) := by
  intro m ρ m' ρ' _ hagree
  refine ⟨_, _, _, _, _, Cert.InProjIdeal.Value.run_blocks (F := Ideal) m ρ, ?_⟩
  refine (θ_run Cert.InProjReferenceIdeal.defs _ _).mono (fun _ h c => ?_) (Cert.InProjReferenceIdeal.Value.run (F := Ideal) m' ρ')
  obtain ⟨e0, e1, e2⟩ := hagree c
  obtain ⟨h0, h1, h2, h3, h4, hr⟩ := h c
  rw [e0, e1, e2] at h0 h1 h2 h3 h4
  refine ⟨h0.trans ?_, h1.trans ?_, h2.trans ?_, h3.trans ?_, h4.trans ?_, hr⟩
  · refine Eq.trans ?_ (Cert.InProjIdeal.Proj.final3 m c).symm
    exact Cert.InProjReferenceIdeal.Proj.cut_narrow _ _ _ 512 0 (by omega) _
  · refine Eq.trans ?_ (Cert.InProjIdeal.Proj.final4 m c).symm
    exact Cert.InProjReferenceIdeal.Proj.cut_narrow _ _ _ 256 512 (by omega) _
  · refine Eq.trans ?_ (Cert.InProjIdeal.Proj.final5 m c).symm
    exact Cert.InProjReferenceIdeal.Proj.cut _ _ _ 512 768 (by omega) _
  · refine Eq.trans ?_ (Cert.InProjIdeal.Proj.final6 m c).symm
    exact Cert.InProjReferenceIdeal.Proj.cut _ _ _ 1024 1280 (by omega) _
  · refine Eq.trans ?_ (Cert.InProjIdeal.Proj.final7 m c).symm
    exact Cert.InProjReferenceIdeal.Proj.cut _ _ _ 3072 2304 (by omega) _

/-! ## The last norm -/

theorem frame_norm_ref : Cert.quiescent_FinalNormReferenceIdeal (hFinalNormReferenceIdeal := Cert.FinalNormReferenceIdeal.Gen.facts) := fun m ρ _ =>
  (θ_run Cert.FinalNormReferenceIdeal.defs _ _).mono (fun r h => ⟨fun c => (h c).2,
      Idealize.ShloMosaic.sem_eq_zero_of_no_sems (by decide) r.2⟩)
    (Cert.FinalNormReferenceIdeal.Value.run (F := Ideal) m ρ)

theorem value_norm : Cert.algebraic_FinalNormIdeal_FinalNormReferenceIdeal (hFinalNormIdeal := Cert.FinalNormIdeal.Gen.facts)
    (hFinalNormReferenceIdeal := Cert.FinalNormReferenceIdeal.Gen.facts) := by
  intro m ρ m' ρ' _ hagree
  refine ⟨_, Cert.FinalNormIdeal.Value.run_blocks (F := Ideal) m ρ, ?_⟩
  refine (θ_run Cert.FinalNormReferenceIdeal.defs _ _).mono (fun _ h c => ?_) (Cert.FinalNormReferenceIdeal.Value.run (F := Ideal) m' ρ')
  obtain ⟨e0, e1⟩ := hagree c
  obtain ⟨h0, hr⟩ := h c
  rw [e0, e1] at h0
  refine ⟨h0.trans ?_, hr⟩
  refine Eq.trans ?_ (Cert.FinalNormIdeal.Norm.final m c).symm
  exact Cert.FinalNormReferenceIdeal.Norm.ref_final _ _

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.FinalNorm.Gen.facts, Cert.FinalNormIdeal.Gen.facts, Cert.FinalNormReferenceIdeal.Gen.facts, Cert.Mix.Pre.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  Cert.InProj.Proj.frame, fun m ρ _ => Cert.InProjIdeal.Gen.frame m ρ, frame_in_ref,
  Cert.FinalNorm.Norm.frame, fun m ρ _ => Cert.FinalNormIdeal.Gen.frame m ρ, frame_norm_ref,
  IdealRules.named_const.statement Cert.KernelIdeal.κ "mask" .f32 0xF149F2CA#32 ⊥ rfl, value,
  trivial, value_in, trivial, value_norm⟩

end Cert.Proof

end
